-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "angle_1" .f32 0x3EB2B8C2#32 (((1 / 9) * Real.pi : ℝ) : EReal)
  ∧ IdealRules.named_const.Statement Cert.KernelIdeal.κ "angle_2" .f32 0x3F32B8C2#32 (((2 / 9) * Real.pi : ℝ) : EReal)
  ∧ IdealRules.named_const.Statement Cert.KernelIdeal.κ "angle_3" .f32 0x3F860A92#32 (((1 / 3) * Real.pi : ℝ) : EReal)
  ∧ IdealRules.named_const.Statement Cert.KernelIdeal.κ "angle_4" .f32 0x3FB2B8C2#32 (((4 / 9) * Real.pi : ℝ) : EReal)
  ∧ IdealRules.named_const.Statement Cert.KernelIdeal.κ "angle_5" .f32 0x3FDF66F3#32 (((5 / 9) * Real.pi : ℝ) : EReal)
  ∧ IdealRules.named_const.Statement Cert.KernelIdeal.κ "angle_6" .f32 0x40060A92#32 (((2 / 3) * Real.pi : ℝ) : EReal)
  ∧ IdealRules.named_const.Statement Cert.KernelIdeal.κ "angle_7" .f32 0x401C61AA#32 (((7 / 9) * Real.pi : ℝ) : EReal)
  ∧ IdealRules.named_const.Statement Cert.KernelIdeal.κ "angle_8" .f32 0x4032B8C2#32 (((8 / 9) * Real.pi : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1x512x512 : Shape := ⟨4, ![16, 1, 512, 512]⟩
abbrev S_ : Shape := ⟨0, ![]⟩

class Facts : Prop where
  bcast_S_S16x1x512x512 : S_.BroadcastsInDim S16x1x512x512 (![] : Fin 0 → Fin S16x1x512x512.rank)

variable [Facts]

def fn {F : FTy → Type} [FloatOps F] (main_arg0 : FVec F S16x1x512x512 .f32) : IVec S16x1x512x512 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  main_v2
-- ==== Kernel.lean ====
abbrev S16x1x512x512 : Shape := ⟨4, ![16, 1, 512, 512]⟩
abbrev S512x512 : Shape := ⟨2, ![512, 512]⟩
abbrev S_ : Shape := ⟨0, ![]⟩
abbrev S512x64 : Shape := ⟨2, ![512, 64]⟩
abbrev S9x16x64x64 : Shape := ⟨4, ![9, 16, 64, 64]⟩
abbrev S1x1x512x512 : Shape := ⟨4, ![1, 1, 512, 512]⟩
abbrev S9x1x64x64 : Shape := ⟨4, ![9, 1, 64, 64]⟩
abbrev S512x1 : Shape := ⟨2, ![512, 1]⟩
abbrev S512x511 : Shape := ⟨2, ![512, 511]⟩
abbrev S1x512 : Shape := ⟨2, ![1, 512]⟩
abbrev S511x512 : Shape := ⟨2, ![511, 512]⟩
abbrev S16x1 : Shape := ⟨2, ![16, 1]⟩
abbrev S1 : Shape := ⟨1, ![1]⟩
abbrev S1x1 : Shape := ⟨2, ![1, 1]⟩
abbrev S64x8x64 : Shape := ⟨3, ![64, 8, 64]⟩
abbrev S64x64 : Shape := ⟨2, ![64, 64]⟩
abbrev S1x1x64x64 : Shape := ⟨4, ![1, 1, 64, 64]⟩
abbrev S9x16x4096 : Shape := ⟨3, ![9, 16, 4096]⟩
abbrev S16x4096x9 : Shape := ⟨3, ![16, 4096, 9]⟩

abbrev nBuf : Space → Nat
  | .hbm => 80
  | .vmem => 7
  | .smem => 0
  | _ => 0

abbrev bufTy : (tb : Table) → Fin (tcTables nBuf tb) → BufTy
  | .hbm, ⟨0, _⟩ => ⟨S16x1x512x512, .f32⟩
  | .hbm, ⟨1, _⟩ => ⟨S512x512, .i32⟩
  | .hbm, ⟨2, _⟩ => ⟨S512x512, .i32⟩
  | .hbm, ⟨3, _⟩ => ⟨S_, .i32⟩
  | .hbm, ⟨4, _⟩ => ⟨S512x512, .i32⟩
  | .hbm, ⟨5, _⟩ => ⟨S512x512, .i32⟩
  | .hbm, ⟨6, _⟩ => ⟨S512x512, .i32⟩
  | .hbm, ⟨7, _⟩ => ⟨S512x512, .i1⟩
  | .hbm, ⟨8, _⟩ => ⟨S_, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .i1⟩
  | .hbm, ⟨14, _⟩ => ⟨S_, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S_, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .bf16⟩
  | .hbm, ⟨35, _⟩ => ⟨S512x512, .i32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i32⟩
  | .hbm, ⟨40, _⟩ => ⟨S512x512, .i32⟩
  | .hbm, ⟨41, _⟩ => ⟨S512x512, .i1⟩
  | .hbm, ⟨42, _⟩ => ⟨S_, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .i1⟩
  | .hbm, ⟨48, _⟩ => ⟨S_, .f32⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S_, .i32⟩
  | .hbm, ⟨54, _⟩ => ⟨S512x512, .i32⟩
  | .hbm, ⟨55, _⟩ => ⟨S512x512, .i32⟩
  | .hbm, ⟨56, _⟩ => ⟨S512x512, .i32⟩
  | .hbm, ⟨57, _⟩ => ⟨S_, .i32⟩
  | .hbm, ⟨58, _⟩ => ⟨S512x512, .i32⟩
  | .hbm, ⟨59, _⟩ => ⟨S512x512, .i32⟩
  | .hbm, ⟨60, _⟩ => ⟨S512x512, .i1⟩
  | .hbm, ⟨61, _⟩ => ⟨S_, .f32⟩
  | .hbm, ⟨62, _⟩ => ⟨S_, .f32⟩
  | .hbm, ⟨63, _⟩ => ⟨S512x512, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S512x512, .bf16⟩
  | .hbm, ⟨70, _⟩ => ⟨S512x64, .i32⟩
  | .hbm, ⟨71, _⟩ => ⟨S_, .i32⟩
  | .hbm, ⟨72, _⟩ => ⟨S512x64, .i32⟩
  | .hbm, ⟨73, _⟩ => ⟨S512x64, .i32⟩
  | .hbm, ⟨74, _⟩ => ⟨S512x64, .i32⟩
  | .hbm, ⟨75, _⟩ => ⟨S512x64, .i1⟩
  | .hbm, ⟨76, _⟩ => ⟨S512x64, .bf16⟩
  | .hbm, ⟨77, _⟩ => ⟨S9x16x64x64, .f32⟩
  | .hbm, ⟨78, _⟩ => ⟨S9x16x4096, .f32⟩
  | .hbm, ⟨79, _⟩ => ⟨S16x4096x9, .f32⟩
  | .local _ .vmem, ⟨0, _⟩ => ⟨S1x1x512x512, .f32⟩
  | .local _ .vmem, ⟨1, _⟩ => ⟨S1x1x512x512, .f32⟩
  | .local _ .vmem, ⟨2, _⟩ => ⟨S512x512, .bf16⟩
  | .local _ .vmem, ⟨3, _⟩ => ⟨S512x512, .bf16⟩
  | .local _ .vmem, ⟨4, _⟩ => ⟨S512x64, .bf16⟩
  | .local _ .vmem, ⟨5, _⟩ => ⟨S9x1x64x64, .f32⟩
  | .local _ .vmem, ⟨6, _⟩ => ⟨S9x1x64x64, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_cst_6 : Ref sig .tc := ⟨.hbm, 28, rfl⟩
abbrev main_call2_v0 : Ref sig .tc := ⟨.hbm, 29, rfl⟩
abbrev main_call2_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_cst_9 : Ref sig .tc := ⟨.hbm, 43, rfl⟩
abbrev main_call3_v0 : Ref sig .tc := ⟨.hbm, 44, rfl⟩
abbrev main_call3_v1 : Ref sig .tc := ⟨.hbm, 45, rfl⟩
abbrev main_v25 : Ref sig .tc := ⟨.hbm, 46, rfl⟩
abbrev main_v26 : Ref sig .tc := ⟨.hbm, 47, rfl⟩
abbrev main_cst_10 : Ref sig .tc := ⟨.hbm, 48, rfl⟩
abbrev main_cst_11 : Ref sig .tc := ⟨.hbm, 49, rfl⟩
abbrev main_call4_v0 : Ref sig .tc := ⟨.hbm, 50, rfl⟩
abbrev main_call4_v1 : Ref sig .tc := ⟨.hbm, 51, rfl⟩
abbrev main_v27 : Ref sig .tc := ⟨.hbm, 52, rfl⟩
abbrev main_c_12 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_13 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_14 : Ref sig .tc := ⟨.hbm, 61, rfl⟩
abbrev main_cst_15 : Ref sig .tc := ⟨.hbm, 62, rfl⟩
abbrev main_call5_v0 : Ref sig .tc := ⟨.hbm, 63, rfl⟩
abbrev main_call5_v1 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_16 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S9x1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "angle_1" => some (((1 / 9) * Real.pi : ℝ) : EReal)
  | "angle_2" => some (((2 / 9) * Real.pi : ℝ) : EReal)
  | "angle_3" => some (((1 / 3) * Real.pi : ℝ) : EReal)
  | "angle_4" => some (((4 / 9) * Real.pi : ℝ) : EReal)
  | "angle_5" => some (((5 / 9) * Real.pi : ℝ) : EReal)
  | "angle_6" => some (((2 / 3) * Real.pi : ℝ) : EReal)
  | "angle_7" => some (((7 / 9) * Real.pi : ℝ) : EReal)
  | "angle_8" => some (((8 / 9) * Real.pi : ℝ) : EReal)
  | _ => none
-- ==== ReferenceIdeal.lean ====
abbrev S16x1x512x512 : Shape := ⟨4, ![16, 1, 512, 512]⟩
abbrev S_ : Shape := ⟨0, ![]⟩
abbrev S16x1x1x512 : Shape := ⟨4, ![16, 1, 1, 512]⟩
abbrev S16x1x513x512 : Shape := ⟨4, ![16, 1, 513, 512]⟩
abbrev S16x1x514x512 : Shape := ⟨4, ![16, 1, 514, 512]⟩
abbrev S16x1x514x1 : Shape := ⟨4, ![16, 1, 514, 1]⟩
abbrev S16x1x514x513 : Shape := ⟨4, ![16, 1, 514, 513]⟩
abbrev S16x1x514x514 : Shape := ⟨4, ![16, 1, 514, 514]⟩
abbrev S16x1x1x512x512 : Shape := ⟨5, ![16, 1, 1, 512, 512]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x1x16 : Shape := ⟨4, ![1, 16, 1, 16]⟩
abbrev S32x16x32x16 : Shape := ⟨4, ![32, 16, 32, 16]⟩
abbrev S512x512 : Shape := ⟨2, ![512, 512]⟩
abbrev S1x1x1x512x512 : Shape := ⟨5, ![1, 1, 1, 512, 512]⟩
abbrev S9 : Shape := ⟨1, ![9]⟩
abbrev S1x1x9x1x1 : Shape := ⟨5, ![1, 1, 9, 1, 1]⟩
abbrev S16x1x9x512x512 : Shape := ⟨5, ![16, 1, 9, 512, 512]⟩
abbrev S16x1x9x64x8x64x8 : Shape := ⟨7, ![16, 1, 9, 64, 8, 64, 8]⟩
abbrev S16x1x9x64x64 : Shape := ⟨5, ![16, 1, 9, 64, 64]⟩
abbrev S16x1x64x64 : Shape := ⟨4, ![16, 1, 64, 64]⟩
abbrev S16x1x1x64x64 : Shape := ⟨5, ![16, 1, 1, 64, 64]⟩
abbrev S16x9x64x64 : Shape := ⟨4, ![16, 9, 64, 64]⟩
abbrev S16x64x64x9 : Shape := ⟨4, ![16, 64, 64, 9]⟩
abbrev S16x4096x9 : Shape := ⟨3, ![16, 4096, 9]⟩

abbrev nBuf : Space → Nat
  | .hbm => 145
  | .vmem => 0
  | .smem => 0
  | _ => 0

abbrev hbmTy0_0 (i : Nat) : BufTy := match i % 128 with
  | 0 => ⟨S16x1x512x512, .f32⟩
  | 1 => ⟨S_, .i32⟩
  | 2 => ⟨S16x1x1x512, .f32⟩
  | 3 => ⟨S16x1x1x512, .f32⟩
  | 4 => ⟨S16x1x1x512, .f32⟩
  | 5 => ⟨S16x1x513x512, .f32⟩
  | 6 => ⟨S16x1x1x512, .f32⟩
  | 7 => ⟨S16x1x1x512, .f32⟩
  | 8 => ⟨S16x1x1x512, .f32⟩
  | 9 => ⟨S16x1x514x512, .f32⟩
  | 10 => ⟨S16x1x514x1, .f32⟩
  | 11 => ⟨S16x1x514x1, .f32⟩
  | 12 => ⟨S16x1x514x1, .f32⟩
  | 13 => ⟨S16x1x514x513, .f32⟩
  | 14 => ⟨S16x1x514x1, .f32⟩
  | 15 => ⟨S16x1x514x1, .f32⟩
  | 16 => ⟨S16x1x514x1, .f32⟩
  | 17 => ⟨S16x1x514x514, .f32⟩
  | 18 => ⟨S16x1x512x512, .f32⟩
  | 19 => ⟨S16x1x512x512, .f32⟩
  | 20 => ⟨S16x1x512x512, .f32⟩
  | 21 => ⟨S16x1x512x512, .f32⟩
  | 22 => ⟨S_, .f32⟩
  | 23 => ⟨S16x1x512x512, .f32⟩
  | 24 => ⟨S16x1x512x512, .f32⟩
  | 25 => ⟨S16x1x512x512, .f32⟩
  | 26 => ⟨S16x1x512x512, .f32⟩
  | 27 => ⟨S_, .f32⟩
  | 28 => ⟨S16x1x512x512, .f32⟩
  | 29 => ⟨S16x1x512x512, .f32⟩
  | 30 => ⟨S16x1x512x512, .f32⟩
  | 31 => ⟨S16x1x512x512, .f32⟩
  | 32 => ⟨S16x1x512x512, .f32⟩
  | 33 => ⟨S16x1x512x512, .f32⟩
  | 34 => ⟨S16x1x512x512, .f32⟩
  | 35 => ⟨S16x1x512x512, .f32⟩
  | 36 => ⟨S16x1x512x512, .f32⟩
  | 37 => ⟨S_, .f32⟩
  | 38 => ⟨S16x1x512x512, .f32⟩
  | 39 => ⟨S16x1x512x512, .f32⟩
  | 40 => ⟨S16x1x512x512, .f32⟩
  | 41 => ⟨S16x1x512x512, .f32⟩
  | 42 => ⟨S16x1x512x512, .f32⟩
  | 43 => ⟨S16x1x512x512, .f32⟩
  | 44 => ⟨S16x1x512x512, .f32⟩
  | 45 => ⟨S16x1x512x512, .f32⟩
  | 46 => ⟨S_, .f32⟩
  | 47 => ⟨S16x1x512x512, .f32⟩
  | 48 => ⟨S16x1x512x512, .f32⟩
  | 49 => ⟨S16x1x512x512, .f32⟩
  | 50 => ⟨S16x1x512x512, .f32⟩
  | 51 => ⟨S16x1x512x512, .f32⟩
  | 52 => ⟨S16x1x512x512, .f32⟩
  | 53 => ⟨S16x1x512x512, .f32⟩
  | 54 => ⟨S16x1x512x512, .f32⟩
  | 55 => ⟨S16x1x512x512, .f32⟩
  | 56 => ⟨S_, .f32⟩
  | 57 => ⟨S_, .f32⟩
  | 58 => ⟨S_, .f32⟩
  | 59 => ⟨S16x1x512x512, .f32⟩
  | 60 => ⟨S16x1x512x512, .f32⟩
  | 61 => ⟨S16x1x512x512, .f32⟩
  | 62 => ⟨S_, .f32⟩
  | 63 => ⟨S16x1x512x512, .f32⟩
  | 64 => ⟨S16x1x512x512, .f32⟩
  | 65 => ⟨S16x1x1x512x512, .f32⟩
  | 66 => ⟨S16x1x1x512x512, .f32⟩
  | 67 => ⟨S16, .f32⟩
  | 68 => ⟨S_, .f32⟩
  | 69 => ⟨S_, .f32⟩
  | 70 => ⟨S_, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S16, .f32⟩
  | 78 => ⟨S_, .f32⟩
  | 79 => ⟨S16, .f32⟩
  | 80 => ⟨S16, .f32⟩
  | 81 => ⟨S16, .f32⟩
  | 82 => ⟨S16x1, .f32⟩
  | 83 => ⟨S1x16, .f32⟩
  | 84 => ⟨S16x16, .f32⟩
  | 85 => ⟨S16x16, .f32⟩
  | 86 => ⟨S16x16, .f32⟩
  | 87 => ⟨S_, .f32⟩
  | 88 => ⟨S_, .f32⟩
  | 89 => ⟨S16x16, .f32⟩
  | 90 => ⟨S16x16, .f32⟩
  | 91 => ⟨S1x16x1x16, .f32⟩
  | 92 => ⟨S32x16x32x16, .f32⟩
  | 93 => ⟨S512x512, .f32⟩
  | 94 => ⟨S1x1x1x512x512, .f32⟩
  | 95 => ⟨S16x1x1x512x512, .f32⟩
  | 96 => ⟨S16x1x1x512x512, .f32⟩
  | 97 => ⟨S16x1x1x512x512, .f32⟩
  | 98 => ⟨S16x1x1x512x512, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S16x1x1x512x512, .i32⟩
  | 106 => ⟨S16x1x1x512x512, .i32⟩
  | 107 => ⟨S_, .i32⟩
  | 108 => ⟨S16x1x1x512x512, .i32⟩
  | 109 => ⟨S16x1x1x512x512, .i1⟩
  | 110 => ⟨S_, .i32⟩
  | 111 => ⟨S16x1x1x512x512, .i32⟩
  | 112 => ⟨S16x1x1x512x512, .i1⟩
  | 113 => ⟨S_, .i32⟩
  | 114 => ⟨S_, .i1⟩
  | 115 => ⟨S16x1x1x512x512, .i1⟩
  | 116 => ⟨S16x1x1x512x512, .i1⟩
  | 117 => ⟨S16x1x1x512x512, .i1⟩
  | 118 => ⟨S16x1x1x512x512, .i32⟩
  | 119 => ⟨S16x1x1x512x512, .i32⟩
  | 120 => ⟨S16x1x1x512x512, .i32⟩
  | 121 => ⟨S9, .i32⟩
  | 122 => ⟨S1x1x9x1x1, .i32⟩
  | 123 => ⟨S16x1x9x512x512, .i32⟩
  | 124 => ⟨S16x1x9x512x512, .i32⟩
  | 125 => ⟨S16x1x9x512x512, .i1⟩
  | 126 => ⟨S16x1x9x512x512, .f32⟩
  | 127 => ⟨S16x1x9x512x512, .f32⟩
  | _ => ⟨S16x1x512x512, .f32⟩

abbrev hbmTy0_1 (i : Nat) : BufTy := match i % 128 with
  | 0 => ⟨S16x1x9x512x512, .f32⟩
  | 1 => ⟨S16x1x9x64x8x64x8, .f32⟩
  | 2 => ⟨S_, .f32⟩
  | 3 => ⟨S16x1x9x64x64, .f32⟩
  | 4 => ⟨S16x1x9x64x64, .f32⟩
  | 5 => ⟨S_, .f32⟩
  | 6 => ⟨S16x1x64x64, .f32⟩
  | 7 => ⟨S16x1x1x64x64, .f32⟩
  | 8 => ⟨S16x1x1x64x64, .f32⟩
  | 9 => ⟨S_, .f32⟩
  | 10 => ⟨S16x1x1x64x64, .f32⟩
  | 11 => ⟨S16x1x1x64x64, .f32⟩
  | 12 => ⟨S16x1x9x64x64, .f32⟩
  | 13 => ⟨S16x1x9x64x64, .f32⟩
  | 14 => ⟨S16x9x64x64, .f32⟩
  | 15 => ⟨S16x64x64x9, .f32⟩
  | 16 => ⟨S16x4096x9, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_11 : Ref sig .tc := ⟨.hbm, 99, rfl⟩
abbrev main_call1_v0 : Ref sig .tc := ⟨.hbm, 100, rfl⟩
abbrev main_call1_c : Ref sig .tc := ⟨.hbm, 101, rfl⟩
abbrev main_call1_v1 : Ref sig .tc := ⟨.hbm, 102, rfl⟩
abbrev main_call1_c_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_c_1 : Ref sig .tc := ⟨.hbm, 107, rfl⟩
abbrev main_call1_v5 : Ref sig .tc := ⟨.hbm, 108, rfl⟩
abbrev main_call1_v6 : Ref sig .tc := ⟨.hbm, 109, rfl⟩
abbrev main_call1_c_2 : Ref sig .tc := ⟨.hbm, 110, rfl⟩
abbrev main_call1_v7 : Ref sig .tc := ⟨.hbm, 111, rfl⟩
abbrev main_call1_v8 : Ref sig .tc := ⟨.hbm, 112, rfl⟩
abbrev main_call1_c_3 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_v12 : Ref sig .tc := ⟨.hbm, 117, rfl⟩
abbrev main_call1_v13 : Ref sig .tc := ⟨.hbm, 118, rfl⟩
abbrev main_call1_v14 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_12 : Ref sig .tc := ⟨.hbm, 130, rfl⟩
abbrev main_v80 : Ref sig .tc := ⟨.hbm, 131, rfl⟩
abbrev main_v81 : Ref sig .tc := ⟨.hbm, 132, rfl⟩
abbrev main_cst_13 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_14 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩

abbrev nD : Nat := 1
abbrev τ : Topo := Topo.v7x

variable {F : FTy → Type} [FloatOps F]
-- ==== Proof.Angle.lean ====
/-
  The orientation bin of a gradient, two ways: by the angle of the gradient, and by comparing the cotangent of
  that angle with the cotangents of the bin edges. The two ways agree.
-/
module

public import Mathlib.Analysis.SpecialFunctions.Trigonometric.Arctan
public import Mathlib.Data.EReal.Inv

@[expose] public section

noncomputable section

namespace Cert.Proof.Hog

/-- The angle of the point `(gy, gx)` in `(-π, π]`, taken from the axis of `gy`. -/
def angle (gx gy : ℝ) : ℝ :=
  if 0 < gy then Real.arctan (gx / gy)
  else if gy < 0 then (if 0 ≤ gx then Real.arctan (gx / gy) + Real.pi else Real.arctan (gx / gy) - Real.pi)
  else if 0 < gx then Real.pi / 2 else if gx < 0 then -(Real.pi / 2) else 0

/-- The turn of the angle in ninths of a half turn, rounded down. -/
def turn (gx gy : ℝ) : ℤ := ⌊angle gx gy / Real.pi * 9⌋

/-- The orientation bin: the turn modulo nine. -/
def bin (gx gy : ℝ) : ℤ := turn gx gy % 9

/-- The cotangent of the gradient's angle, folded into the upper half plane; infinite on the axis of `gy`. -/
def ratio (gx gy : ℝ) : EReal := if gx = 0 then ⊤ else ((gy / gx : ℝ) : EReal)

/-- The cotangent of the lower edge of bin `k`. -/
def edge (k : ℕ) : ℝ := 1 / Real.tan ((k : ℝ) / 9 * Real.pi)

/-- Right of the axis the angle is a quarter turn less the angle of the cotangent. -/
theorem angle_of_pos {gx gy : ℝ} (h : 0 < gx) : angle gx gy = Real.pi / 2 - Real.arctan (gy / gx) := by
  rcases lt_trichotomy gy 0 with hy | hy | hy
  · have hc : gy / gx < 0 := div_neg_of_neg_of_pos hy h
    have := Real.arctan_inv_of_neg hc
    rw [inv_div] at this
    rw [angle, if_neg hy.not_gt, if_pos hy, if_pos h.le, this]; ring
  · subst hy; simp [angle, h]
  · have hc : 0 < gy / gx := div_pos hy h
    have := Real.arctan_inv_of_pos hc
    rw [inv_div] at this
    rw [angle, if_pos hy, this]

/-- Left of the axis it is a half turn less than that. -/
theorem angle_of_neg {gx gy : ℝ} (h : gx < 0) : angle gx gy = Real.pi / 2 - Real.arctan (gy / gx) - Real.pi := by
  rcases lt_trichotomy gy 0 with hy | hy | hy
  · have hc : 0 < gy / gx := div_pos_of_neg_of_neg hy h
    have := Real.arctan_inv_of_pos hc
    rw [inv_div] at this
    rw [angle, if_neg hy.not_gt, if_pos hy, if_neg h.not_ge, this]
  · subst hy; simp [angle, h, h.not_gt]; ring
  · have hc : gy / gx < 0 := div_neg_of_pos_of_neg hy h
    have := Real.arctan_inv_of_neg hc
    rw [inv_div] at this
    rw [angle, if_pos hy, this]; ring

/-- On the axis the angle is zero or a half turn. -/
theorem angle_zero (gy : ℝ) : angle 0 gy = 0 ∨ angle 0 gy = Real.pi := by
  rcases lt_trichotomy gy 0 with hy | hy | hy
  · right; simp [angle, hy, hy.not_gt]
  · subst hy; left; simp [angle]
  · left; simp [angle, hy]

/-- The bin is one of the nine. -/
theorem bin_bounds (gx gy : ℝ) : 0 ≤ bin gx gy ∧ bin gx gy < 9 :=
  ⟨Int.emod_nonneg _ (by norm_num), Int.emod_lt_of_pos _ (by norm_num)⟩

/-- The turn lies between minus nine and nine. -/
theorem turn_bounds (gx gy : ℝ) : -9 ≤ turn gx gy ∧ turn gx gy ≤ 9 := by
  have hpi := Real.pi_pos
  have h1 := Real.arctan_lt_pi_div_two (gy / gx)
  have h2 := Real.neg_pi_div_two_lt_arctan (gy / gx)
  have hb : -Real.pi ≤ angle gx gy ∧ angle gx gy ≤ Real.pi := by
    rcases lt_trichotomy gx 0 with h | h | h
    · rw [angle_of_neg h]; constructor <;> linarith
    · subst h
      rcases angle_zero gy with h | h <;> rw [h] <;> constructor <;> linarith
    · rw [angle_of_pos h]; constructor <;> linarith
  have l : (-1 : ℝ) ≤ angle gx gy / Real.pi := by rw [le_div_iff₀ hpi]; linarith
  have u : angle gx gy / Real.pi ≤ 1 := by rw [div_le_iff₀ hpi]; linarith
  unfold turn
  constructor
  · rw [Int.le_floor]; push_cast; linarith
  · have := Int.floor_mono (R := ℝ) (show angle gx gy / Real.pi * 9 ≤ ((9 : ℤ) : ℝ) by push_cast; linarith)
    rwa [Int.floor_intCast] at this

/-- Off the axis the bin is the number of whole ninths below the cotangent's angle. -/
theorem bin_eq {gx gy : ℝ} (h : gx ≠ 0) :
    bin gx gy = ⌊(Real.pi / 2 - Real.arctan (gy / gx)) / Real.pi * 9⌋ := by
  have hpi := Real.pi_pos
  have h1 := Real.arctan_lt_pi_div_two (gy / gx)
  have h2 := Real.neg_pi_div_two_lt_arctan (gy / gx)
  have hl : (0 : ℝ) < (Real.pi / 2 - Real.arctan (gy / gx)) / Real.pi := div_pos (by linarith) hpi
  have hu : (Real.pi / 2 - Real.arctan (gy / gx)) / Real.pi < 1 := by rw [div_lt_one hpi]; linarith
  have f0 : 0 ≤ ⌊(Real.pi / 2 - Real.arctan (gy / gx)) / Real.pi * 9⌋ := Int.floor_nonneg.2 (by linarith)
  have f9 : ⌊(Real.pi / 2 - Real.arctan (gy / gx)) / Real.pi * 9⌋ < 9 := by
    rw [Int.floor_lt]; push_cast; linarith
  rcases lt_or_gt_of_ne h with h | h
  · have e : (Real.pi / 2 - Real.arctan (gy / gx) - Real.pi) / Real.pi * 9
        = (Real.pi / 2 - Real.arctan (gy / gx)) / Real.pi * 9 - ((9 : ℤ) : ℝ) := by
      push_cast; field_simp
    rw [bin, turn, angle_of_neg h, e, Int.floor_sub_intCast]
    omega
  · rw [bin, turn, angle_of_pos h]
    omega

/-- The comparison of cotangents counts the bin: the gradient's cotangent is at most edge `k`'s exactly when its bin
    is at least `k`. -/
theorem ratio_le_edge_iff (gx gy : ℝ) {k : ℕ} (h1 : 1 ≤ k) (h8 : k ≤ 8) :
    ratio gx gy ≤ (edge k : EReal) ↔ (k : ℤ) ≤ bin gx gy := by
  have hpi := Real.pi_pos
  by_cases h : gx = 0
  · subst h
    have hb : bin 0 gy = 0 := by
      rcases angle_zero gy with h | h
      · simp [bin, turn, h]
      · rw [bin, turn, h, div_self hpi.ne', one_mul, show (9 : ℝ) = ((9 : ℤ) : ℝ) by norm_num, Int.floor_intCast]
        rfl
    rw [hb, ratio, if_pos rfl]
    constructor
    · intro hle; exact absurd (top_le_iff.1 hle) (EReal.coe_ne_top _)
    · intro hle; omega
  · have k1 : (1 : ℝ) ≤ k := by exact_mod_cast h1
    have k8 : (k : ℝ) ≤ 8 := by exact_mod_cast h8
    have e : edge k = Real.tan (Real.pi / 2 - (k : ℝ) / 9 * Real.pi) := by
      rw [Real.tan_pi_div_two_sub, edge, one_div]
    have ht := Real.arctan_tan (x := Real.pi / 2 - (k : ℝ) / 9 * Real.pi) (by nlinarith) (by nlinarith)
    rw [bin_eq h, ratio, if_neg h, EReal.coe_le_coe_iff, Int.le_floor, e,
      ← Real.arctan_strictMono.le_iff_le, ht]
    have q : (Real.pi / 2 - Real.arctan (gy / gx)) / Real.pi * 9
        = 9 * ((Real.pi / 2 - Real.arctan (gy / gx)) / Real.pi) := by ring
    rw [q, ← div_le_iff₀' (by norm_num : (0 : ℝ) < 9), le_div_iff₀ hpi]
    push_cast
    constructor <;> intro h <;> linarith

end Cert.Proof.Hog

end
-- ==== Proof.Spec.lean ====
/-
  What both programs compute, over the real numbers: the Sobel gradients of one image, the weighted magnitude of
  each pixel, the histogram of the orientation bins over each cell of eight by eight pixels, and the histogram
  divided by its norm.
-/
module

public import proofs.«01_k».proof.Proof.Angle
public import Mathlib.Analysis.SpecialFunctions.Exp
public import Mathlib.Algebra.BigOperators.Fin

@[expose] public section

noncomputable section

open scoped BigOperators

namespace Cert.Proof.Hog

/-- The row or column before `i`, reflected at the border. -/
def lo (i : Fin 512) : Fin 512 := ⟨if i.val = 0 then 1 else i.val - 1, by split <;> omega⟩

/-- The row or column after `i`, reflected at the border. -/
def hi (i : Fin 512) : Fin 512 := ⟨if i.val = 511 then 510 else i.val + 1, by split <;> omega⟩

/-- Entry `(i, k)` of the smoothing matrix: one, two and one around the diagonal, reflected at the border. -/
def smooth (i k : Fin 512) : ℝ :=
  (if k = lo i then 1 else 0) + (if k = i then 2 else 0) + (if k = hi i then 1 else 0)

/-- A row of the smoothing matrix against a vector. -/
theorem sum_smooth (i : Fin 512) (f : Fin 512 → ℝ) :
    ∑ k, smooth i k * f k = f (lo i) + 2 * f i + f (hi i) := by
  simp only [smooth, add_mul, Finset.sum_add_distrib, ite_mul, one_mul, zero_mul, Finset.sum_ite_eq', Finset.mem_univ,
    if_true]

variable (X : Fin 512 → Fin 512 → ℝ)

/-- The gradient along the columns. -/
def gradX (i j : Fin 512) : ℝ :=
  (X (lo i) (lo j) + 2 * X i (lo j) + X (hi i) (lo j)) - (X (lo i) (hi j) + 2 * X i (hi j) + X (hi i) (hi j))

/-- The gradient along the rows. -/
def gradY (i j : Fin 512) : ℝ :=
  (X (lo i) (lo j) + 2 * X (lo i) j + X (lo i) (hi j)) - (X (hi i) (lo j) + 2 * X (hi i) j + X (hi i) (hi j))

/-- The magnitude of the gradient. -/
def mag (i j : Fin 512) : ℝ := Real.sqrt (gradX X i j * gradX X i j + gradY X i j * gradY X i j)

/-- The Gaussian weight at place `a` of a tile of sixteen. -/
def weight (a : ℕ) : ℝ :=
  Real.exp (-(1 / 2) * ((((a % 16 : ℕ) : ℝ) - 15 / 2) * (1 / 8) * ((((a % 16 : ℕ) : ℝ) - 15 / 2) * (1 / 8))))

/-- The sum of the sixteen weights. -/
def weightSum : ℝ := ∑ a : Fin 16, weight a.val

/-- A weight is positive. -/
theorem weight_pos (a : ℕ) : 0 < weight a := Real.exp_pos _

/-- Their sum is positive. -/
theorem weightSum_pos : 0 < weightSum := Finset.sum_pos (fun _ _ => weight_pos _) Finset.univ_nonempty

/-- The sum of the products of two weights is the square of the sum of the weights. -/
theorem sum_weight_mul : ∑ a : Fin 16, ∑ b : Fin 16, weight a.val * weight b.val = weightSum * weightSum := by
  rw [weightSum, Finset.sum_mul_sum]

/-- The weighted magnitude of a pixel. -/
def mass (i j : Fin 512) : ℝ :=
  mag X i j * (weight i.val * (1 / (weightSum * weightSum))) * weight j.val

/-- Row or column `r` of cell `p`. -/
def pix (p : Fin 64) (r : Fin 8) : Fin 512 := ⟨p.val * 8 + r.val, by omega⟩

/-- The bin of a pixel. -/
def pbin (i j : Fin 512) : ℤ := bin (gradX X i j) (gradY X i j)

/-- The histogram of a cell: the weighted magnitudes of its pixels in bin `k`. -/
def hist (k : ℕ) (p q : Fin 64) : ℝ :=
  ∑ r : Fin 8, ∑ s : Fin 8, if pbin X (pix p r) (pix q s) = k then mass X (pix p r) (pix q s) else 0

/-- The weighted magnitudes of a cell's pixels in bin `k` or a later one. -/
def pooled (k : ℕ) (p q : Fin 64) : ℝ :=
  ∑ r : Fin 8, ∑ s : Fin 8, if (k : ℤ) ≤ pbin X (pix p r) (pix q s) then mass X (pix p r) (pix q s) else 0

/-- The histogram is the difference of two successive pooled sums. -/
theorem pooled_sub (k : ℕ) (p q : Fin 64) : pooled X k p q - pooled X (k + 1) p q = hist X k p q := by
  rw [pooled, pooled, hist, ← Finset.sum_sub_distrib]
  refine Finset.sum_congr rfl fun r _ => ?_
  rw [← Finset.sum_sub_distrib]
  refine Finset.sum_congr rfl fun s _ => ?_
  generalize pbin X (pix p r) (pix q s) = b
  push_cast
  rcases lt_trichotomy (k : ℤ) b with h | h | h
  · rw [if_pos (by omega), if_pos (by omega), if_neg (by omega), sub_self]
  · rw [if_pos (by omega), if_neg (by omega), if_pos (by omega), sub_zero]
  · rw [if_neg (by omega), if_neg (by omega), if_neg (by omega), sub_self]

/-- The last bin's histogram is its pooled sum. -/
theorem pooled_last (p q : Fin 64) : pooled X 8 p q = hist X 8 p q := by
  rw [pooled, hist]
  refine Finset.sum_congr rfl fun r _ => Finset.sum_congr rfl fun s _ => ?_
  have h := (bin_bounds (gradX X (pix p r) (pix q s)) (gradY X (pix p r) (pix q s))).2
  have e : (((8 : ℕ) : ℤ) ≤ pbin X (pix p r) (pix q s)) ↔ pbin X (pix p r) (pix q s) = ((8 : ℕ) : ℤ) := by
    unfold pbin; push_cast; omega
  simp only [e]

/-- The first pooled sum takes every pixel of the cell. -/
theorem pooled_zero (p q : Fin 64) :
    pooled X 0 p q = ∑ r : Fin 8, ∑ s : Fin 8, mass X (pix p r) (pix q s) := by
  rw [pooled]
  refine Finset.sum_congr rfl fun r _ => Finset.sum_congr rfl fun s _ => ?_
  exact if_pos (bin_bounds _ _).1

/-- The smallest norm that a histogram is divided by, the float of `1e-12`. -/
def eps : ℝ := 9223372 * (2 : ℝ) ^ (-63 : ℤ)

/-- It is positive. -/
theorem eps_pos : 0 < eps := by unfold eps; positivity

/-- The norm of a cell's histogram, kept away from zero. -/
def norm (p q : Fin 64) : ℝ := max (Real.sqrt (∑ k : Fin 9, hist X k.val p q * hist X k.val p q)) eps

/-- It is positive. -/
theorem norm_pos (p q : Fin 64) : 0 < norm X p q := lt_of_lt_of_le eps_pos (le_max_right _ _)

/-- The normalised histogram. -/
def result (k : ℕ) (p q : Fin 64) : ℝ := hist X k p q * (1 / norm X p q)

end Cert.Proof.Hog

end
-- ==== Proof.Ext.lean ====
/-
  The extended real operations of the two programs at real arguments, and the literals of the two programs.
-/
module

public import proofs.«01_k».proof.Proof.Spec
public import Idealize.ShloMosaic.Lib.Pipeline.ValueKit
public import Idealize.ShloMosaic.Lib.IdealHost

@[expose] public section

noncomputable section

open scoped BigOperators

open Idealize.ShloMosaic

namespace Cert.Proof.Hog

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, as an extended real. -/
theorem coe_max (a b : ℝ) : ((max a b : ℝ) : EReal) = max (a : EReal) (b : EReal) :=
  (EReal.coe_strictMono.monotone).map_max

/-- The quotient of reals by a nonzero real. -/
theorem div_coe_coe (a : ℝ) {b : ℝ} (h : b ≠ 0) : Ideal.div (a : EReal) (b : EReal) = ((a / b : ℝ) : EReal) := by
  rw [Ideal.div_coe h, ← EReal.coe_mul, mul_one_div]

/-- The root of a real that is not negative. -/
theorem sqrt_coe_of_nonneg {a : ℝ} (h : 0 ≤ a) : Ideal.sqrt (a : EReal) = ((Real.sqrt a : ℝ) : EReal) := by
  rw [Ideal.sqrt_coe, if_neg h.not_gt]

/-- The absolute value of a real. -/
theorem max_neg_coe (a : ℝ) : max (a : EReal) (-(a : EReal)) = ((|a| : ℝ) : EReal) := by
  rw [← EReal.coe_neg, ← coe_max]; rfl

/-- The angle of two reals. -/
theorem atan2_coe (gx gy : ℝ) : Ideal.atan2 (gx : EReal) (gy : EReal) = ((angle gx gy : ℝ) : EReal) := rfl

/-- A small number as a float. -/
theorem sitofp_ofNat {n : ℕ} (h : n < 512) :
    FloatOps.sitofp (F := Ideal) .f32 (BitVec.ofNat 32 n) = (((n : ℕ) : ℝ) : EReal) := by
  have e : (BitVec.ofNat 32 n).toInt = (n : ℤ) := by
    rw [BitVec.toInt_ofNat']; simp [Int.bmod]; omega
  show (((BitVec.ofNat 32 n).toInt : ℝ) : EReal) = _
  rw [e, Int.cast_natCast]

/-- The literal two. -/
theorem lit_two : Ideal.ofBits .f32 0x40000000#32 = ((2 : ℝ) : EReal) := by
  simp [Ideal.ofBits, Ideal.ieee, -EReal.coe_mul]; norm_num

/-- The literal eight. -/
theorem lit_eight : Ideal.ofBits .f32 0x41000000#32 = ((8 : ℝ) : EReal) := by
  simp [Ideal.ofBits, Ideal.ieee, -EReal.coe_mul]; norm_num

/-- The literal nine. -/
theorem lit_nine : Ideal.ofBits .f32 0x41100000#32 = ((9 : ℝ) : EReal) := by
  simp [Ideal.ofBits, Ideal.ieee, -EReal.coe_mul]; norm_num

/-- The literal sixteen. -/
theorem lit_sixteen : Ideal.ofBits .f32 0x41800000#32 = ((16 : ℝ) : EReal) := by
  simp [Ideal.ofBits, Ideal.ieee, -EReal.coe_mul]; norm_num

/-- The literal one eighth. -/
theorem lit_eighth : Ideal.ofBits .f32 0x3E000000#32 = ((1 / 8 : ℝ) : EReal) := by
  simp [Ideal.ofBits, Ideal.ieee, -EReal.coe_mul]; norm_num

/-- The literal minus one half. -/
theorem lit_neg_half : Ideal.ofBits .f32 0xBF000000#32 = ((-(1 / 2) : ℝ) : EReal) := by
  simp [Ideal.ofBits, Ideal.ieee, -EReal.coe_mul, -EReal.coe_neg]; norm_num

/-- The literal minus one. -/
theorem lit_neg_one : Ideal.ofBits .f32 0xBF800000#32 = ((-1 : ℝ) : EReal) := by
  simp [Ideal.ofBits, Ideal.ieee, -EReal.coe_mul, -EReal.coe_neg]; norm_num

/-- The literal seven and a half. -/
theorem lit_half : Ideal.ofBits .f32 0x40F00000#32 = ((15 / 2 : ℝ) : EReal) := by
  simp [Ideal.ofBits, Ideal.ieee, -EReal.coe_mul]; norm_num

/-- The literal infinity. -/
theorem lit_inf : Ideal.ofBits .f32 0x7F800000#32 = ⊤ := by
  simp [Ideal.ofBits, Ideal.ieee]

/-- The literal `1e-12`. -/
theorem lit_eps : Ideal.ofBits .f32 0x2B8CBCCC#32 = ((eps : ℝ) : EReal) := by
  simp [Ideal.ofBits, Ideal.ieee, -EReal.coe_mul, eps]

end Cert.Proof.Hog

end
-- ==== Proof.Block.lean ====
/-
  What the kernel's body computes at one grid point, where its blocks hold an image, the smoothing matrix, its
  transpose and the pooling matrix: the gradients, the magnitude, the weights, and the ratio of the gradients.
-/
module

public import proofs.«01_k».proof.Proof.Gen.KernelIdeal.Frame
public import proofs.«01_k».proof.Proof.Ext

@[expose] public section

set_option maxRecDepth 16384

noncomputable section

open scoped BigOperators

open Idealize.ShloMosaic Idealize.ShloMosaic.TcCoe Idealize.SL.Sem
open Cert.KernelIdeal Cert.KernelIdeal.Gen

namespace Cert.Proof.Hog

/-- The row before, in the first case of the kernel's concatenation. -/
theorem lo_of_lt {j : Fin 512} (h : j.val < 1) (p : 1 + j.val < 512) : (⟨1 + j.val, p⟩ : Fin 512) = lo j := by
  apply Fin.ext; simp only [lo]; split <;> omega

/-- The row before, in the second case. -/
theorem lo_of_not {j : Fin 512} (h : ¬ j.val < 1) (p : j.val - 1 < 512) : (⟨j.val - 1, p⟩ : Fin 512) = lo j := by
  apply Fin.ext; simp only [lo]; split <;> omega

/-- The row after, in the first case. -/
theorem hi_of_lt {j : Fin 512} (h : j.val < 511) (p : 1 + j.val < 512) : (⟨1 + j.val, p⟩ : Fin 512) = hi j := by
  apply Fin.ext; simp only [hi]; split <;> omega

/-- The row after, in the second case. -/
theorem hi_of_not {j : Fin 512} (h : ¬ j.val < 511) (p : 510 + (j.val - 511) < 512) :
    (⟨510 + (j.val - 511), p⟩ : Fin 512) = hi j := by
  apply Fin.ext; simp only [hi]; split <;> omega

/-- A row of the smoothing matrix against a vector, with the factors exchanged. -/
theorem sum_smooth' (i : Fin 512) (f : Fin 512 → ℝ) :
    ∑ k, f k * smooth i k = f (lo i) + 2 * f i + f (hi i) := by
  rw [← sum_smooth]; exact Finset.sum_congr rfl fun k _ => mul_comm _ _

section

variable {x0 : Vec Ideal S1x1x512x512 .f32} {x1 x2 : Vec Ideal S512x512 .bf16} {X : Fin 512 → Fin 512 → ℝ}

/-- The gradient along the columns. -/
theorem pay4_at (h0 : ∀ i j, x0 (ix4 0 0 i j) = (X i j : EReal)) (h1 : ∀ i k, x1 (ix2 i k) = (smooth i k : EReal))
    (i j : Fin 512) : k0_pay4 (F := Ideal) x0 x1 (ix2 i j) = (gradX X i j : EReal) := by
  pointwise [k0_pay4, k0_pay3]
  rw [gradX, EReal.coe_sub]
  refine congrArg₂ (· - ·) ?_ ?_ <;> split
  · rename_i h
    simp only [lo_of_lt h, h0, h1, ← EReal.coe_mul, ← coe_sum, sum_smooth]
  · rename_i h
    simp only [lo_of_not h, h0, h1, ← EReal.coe_mul, ← coe_sum, sum_smooth]
  · rename_i h
    simp only [hi_of_lt h, h0, h1, ← EReal.coe_mul, ← coe_sum, sum_smooth]
  · rename_i h
    simp only [hi_of_not h, h0, h1, ← EReal.coe_mul, ← coe_sum, sum_smooth]

/-- The gradient along the rows. -/
theorem pay5_at (h0 : ∀ i j, x0 (ix4 0 0 i j) = (X i j : EReal)) (h2 : ∀ k j, x2 (ix2 k j) = (smooth j k : EReal))
    (i j : Fin 512) : k0_pay5 (F := Ideal) x0 x2 (ix2 i j) = (gradY X i j : EReal) := by
  pointwise [k0_pay5, k0_pay3]
  rw [gradY, EReal.coe_sub]
  refine congrArg₂ (· - ·) ?_ ?_ <;> split
  · rename_i h
    simp only [lo_of_lt h, h0, h2, ← EReal.coe_mul, ← coe_sum, sum_smooth']
  · rename_i h
    simp only [lo_of_not h, h0, h2, ← EReal.coe_mul, ← coe_sum, sum_smooth']
  · rename_i h
    simp only [hi_of_lt h, h0, h2, ← EReal.coe_mul, ← coe_sum, sum_smooth']
  · rename_i h
    simp only [hi_of_not h, h0, h2, ← EReal.coe_mul, ← coe_sum, sum_smooth']

/-- The magnitude. -/
theorem pay6_at (h0 : ∀ i j, x0 (ix4 0 0 i j) = (X i j : EReal)) (h1 : ∀ i k, x1 (ix2 i k) = (smooth i k : EReal))
    (h2 : ∀ k j, x2 (ix2 k j) = (smooth j k : EReal)) (i j : Fin 512) :
    k0_pay6 (F := Ideal) x0 x1 x2 (ix2 i j) = (mag X i j : EReal) := by
  pointwise [k0_pay6]
  rw [pay4_at h0 h1, pay5_at h0 h2, ← EReal.coe_mul, ← EReal.coe_mul, ← EReal.coe_add]
  exact sqrt_coe_of_nonneg (add_nonneg (mul_self_nonneg _) (mul_self_nonneg _))

end

/-- The kernel's remainder of a row or column by sixteen. -/
theorem rem_word : ∀ i : Fin 512,
    Scalar.select (IntOp.andi (IntOp.xori
        (IntOp.cmpi .slt (IntOp.remsi .vector (BitVec.ofNat 32 i.val)
          (Scalar.select (Scalar.cmpi .eq 16#32 0#32) 1#32 16#32)) 0#32)
        (Scalar.cmpi .slt (Scalar.select (Scalar.cmpi .eq 16#32 0#32) 1#32 16#32) 0#32))
      (IntOp.cmpi .ne (IntOp.remsi .vector (BitVec.ofNat 32 i.val)
        (Scalar.select (Scalar.cmpi .eq 16#32 0#32) 1#32 16#32)) 0#32))
      (IntOp.addi (IntOp.remsi .vector (BitVec.ofNat 32 i.val)
        (Scalar.select (Scalar.cmpi .eq 16#32 0#32) 1#32 16#32))
        (Scalar.select (Scalar.cmpi .eq 16#32 0#32) 1#32 16#32))
      (IntOp.remsi .vector (BitVec.ofNat 32 i.val) (Scalar.select (Scalar.cmpi .eq 16#32 0#32) 1#32 16#32))
    = BitVec.ofNat 32 (i.val % 16) := by decide +kernel

/-- The same of the kernel's own values for a row. -/
theorem row_word (i : Fin 512) :
    Scalar.select (k0_pay8 (ix2 i 0)) (k0_pay9 (ix2 i 0)) (k0_pay7 (ix2 i 0)) = BitVec.ofNat 32 (i.val % 16) := by
  pointwise [k0_pay7, k0_pay8, k0_pay9]
  exact rem_word i

/-- The exponential of the kernel's exponent is the weight. -/
theorem weight_exp (a : ℕ) :
    Ideal.exp (Ideal.ofBits .f32 0xBF000000#32 *
      (((((a % 16 : ℕ) : ℝ) : EReal) - Ideal.ofBits .f32 0x40F00000#32) * Ideal.ofBits .f32 0x3E000000#32 *
        (((((a % 16 : ℕ) : ℝ) : EReal) - Ideal.ofBits .f32 0x40F00000#32) * Ideal.ofBits .f32 0x3E000000#32)))
      = ((weight a : ℝ) : EReal) := by
  rw [lit_neg_half, lit_half, lit_eighth]
  simp only [← EReal.coe_sub, ← EReal.coe_mul]
  exact Ideal.exp_coe _

/-- The remainder as a float. -/
theorem sitofp_mod (n : ℕ) :
    FloatOps.sitofp (F := Ideal) .f32 (BitVec.ofNat 32 (n % 16)) = (((n % 16 : ℕ) : ℝ) : EReal) :=
  sitofp_ofNat (by omega)

/-- The weight of a column. -/
theorem pay10_at (j : Fin 512) : k0_pay10 (F := Ideal) (ix2 0 j) = (weight j.val : EReal) := by
  pointwise [k0_pay10]
  rw [rem_word, sitofp_mod]
  exact weight_exp _

/-- The magnitude times the weight of a row over the square of the sum of the weights. -/
theorem pay11_at (M : FVec Ideal S512x512 .f32) (i j : Fin 512) :
    k0_pay11 (F := Ideal) M k0_pay7 k0_pay8 k0_pay9 (ix2 i j)
      = M (ix2 i j) * ((weight i.val * (1 / (weightSum * weightSum)) : ℝ) : EReal) := by
  pointwise [k0_pay11]
  simp only [row_word, sitofp_mod, weight_exp]
  rw [← coe_sum, ← EReal.coe_mul]
  have h : (∑ a : Fin 16, weight a.val) * (∑ a : Fin 16, weight a.val) ≠ 0 :=
    (mul_pos weightSum_pos weightSum_pos).ne'
  refine congrArg (M (ix2 i j) * ·) ?_
  rw [← EReal.coe_one, div_coe_coe 1 h, ← EReal.coe_mul]
  rfl

/-- The kernel's ratio of the gradients. -/
theorem pay12_at {x y : FVec Ideal S512x512 .f32} {gx gy : ℝ} {i j : Fin 512} (hx : x (ix2 i j) = (gx : EReal))
    (hy : y (ix2 i j) = (gy : EReal)) : k0_pay12 (F := Ideal) x y (ix2 i j) = ratio gx gy := by
  pointwise [k0_pay12]
  rw [hx, hy, lit_inf, ratio]
  have ha : FloatOps.absf (F := Ideal) (φ := .f32) ((gx : ℝ) : EReal) = ((|gx| : ℝ) : EReal) := max_neg_coe gx
  rw [ha]
  by_cases h : gx = 0
  · rw [if_pos h, if_pos (by rw [h, EReal.coe_zero])]
  rw [if_neg h, if_neg (by rwa [← EReal.coe_zero, EReal.coe_eq_coe_iff])]
  rcases lt_or_gt_of_ne h with h' | h'
  · rw [if_pos (by rwa [← EReal.coe_zero, EReal.coe_lt_coe_iff]), ← EReal.coe_zero, ← EReal.coe_sub,
      div_coe_coe _ (abs_pos.2 h).ne', abs_of_neg h', zero_sub, neg_div_neg_eq]
  · rw [if_neg (by rw [← EReal.coe_zero, EReal.coe_lt_coe_iff]; exact h'.not_gt),
      div_coe_coe _ (abs_pos.2 h).ne', abs_of_pos h']

/-- The weighted magnitude, from the magnitude with the weight of its row. -/
theorem pay13_at (w : FVec Ideal S1x512 .f32) (e : FVec Ideal S512x512 .f32) (i j : Fin 512) :
    k0_pay13 (F := Ideal) w e (ix2 i j) = e (ix2 i j) * w (ix2 0 j) := by
  pointwise [k0_pay13]

end Cert.Proof.Hog

end
-- ==== Proof.Pool.lean ====
/-
  The kernel's nine pooled sums at one grid point, the histogram as their differences, its norm, and the nine tiles
  that the body stores.
-/
module

public import proofs.«01_k».proof.Proof.Block

@[expose] public section

set_option maxRecDepth 16384

noncomputable section

open scoped BigOperators

open Idealize.ShloMosaic Idealize.ShloMosaic.TcCoe Idealize.SL.Sem
open Cert.KernelIdeal Cert.KernelIdeal.Gen

namespace Cert.Proof.Hog

/-- Entry `(j, q)` of the pooling matrix: whether column `j` is one of cell `q`'s. -/
def member (j : Fin 512) (q : Fin 64) : ℝ := if j.val / 8 = q.val then 1 else 0

/-- A row against a column of the pooling matrix: the sum over the cell's eight columns. -/
theorem sum_member (f : Fin 512 → ℝ) (q : Fin 64) : ∑ j, f j * member j q = ∑ s : Fin 8, f (pix q s) := by
  simp only [member, mul_ite, mul_one, mul_zero]
  rw [← Finset.sum_filter]
  symm
  refine Finset.sum_bij (fun s _ => pix q s) ?_ ?_ ?_ ?_
  · intro s _
    simp only [Finset.mem_filter, Finset.mem_univ, true_and, pix]
    omega
  · intro s _ s' _ h
    have := congrArg Fin.val h
    simp only [pix] at this
    exact Fin.ext (by omega)
  · intro j hj
    have : j.val / 8 = q.val := (Finset.mem_filter.1 hj).2
    exact ⟨⟨j.val % 8, by omega⟩, Finset.mem_univ _, Fin.ext (by simp only [pix]; omega)⟩
  · intro s _; rfl

/-- The tangent at the lower edge of a bin is not zero. -/
theorem tan_edge_ne {k : ℕ} (h1 : 1 ≤ k) (h8 : k ≤ 8) : Real.tan ((k : ℝ) / 9 * Real.pi) ≠ 0 := by
  intro h
  have hpi := Real.pi_pos
  have k1 : (1 : ℝ) ≤ k := by exact_mod_cast h1
  have k8 : (k : ℝ) ≤ 8 := by exact_mod_cast h8
  have ht := Real.arctan_tan (x := Real.pi / 2 - (k : ℝ) / 9 * Real.pi) (by nlinarith) (by nlinarith)
  rw [Real.tan_pi_div_two_sub, h, inv_zero, Real.arctan_zero] at ht
  have e : (2 * (k : ℝ) - 9) * Real.pi = 0 := by linarith
  have e2 : 2 * (k : ℝ) = 9 := by
    rcases mul_eq_zero.1 e with e | e
    · linarith
    · exact absurd e hpi.ne'
  have e3 : 2 * k = 9 := by exact_mod_cast e2
  omega

/-- The kernel's edge, one over the tangent of the named angle. -/
theorem edge_of {k : ℕ} (h1 : 1 ≤ k) (h8 : k ≤ 8) {e : Ideal .f32} {a : ℝ} (he : e = ((a : ℝ) : EReal))
    (ha : a = (k : ℝ) / 9 * Real.pi) : Ideal.div 1 (Scalar.tan e) = (edge k : EReal) := by
  subst he ha
  have ht : Scalar.tan (F := Ideal) (φ := .f32) (((k : ℝ) / 9 * Real.pi : ℝ) : EReal)
      = ((Real.tan ((k : ℝ) / 9 * Real.pi) : ℝ) : EReal) := Ideal.tan_coe _
  rw [ht, ← EReal.coe_one, div_coe_coe 1 (tan_edge_ne h1 h8)]
  rfl

section

variable {X : Fin 512 → Fin 512 → ℝ} {R : FVec Ideal S512x512 .f32} {W : FVec Ideal S512x512 .bf16}
  {P : FVec Ideal S512x64 .bf16}

/-- A sum over a cell's rows of masked rows against the pooling matrix is the pooled sum. -/
theorem pool_at (hR : ∀ i j, R (ix2 i j) = ratio (gradX X i j) (gradY X i j))
    (hW : ∀ i j, W (ix2 i j) = (mass X i j : EReal)) (hP : ∀ j q, P (ix2 j q) = (member j q : EReal))
    {k : ℕ} (h1 : 1 ≤ k) (h8 : k ≤ 8) {e : EReal} (he : e = (edge k : EReal)) (p q : Fin 64) :
    (∑ r : Fin 8, ∑ j : Fin 512,
      (if R (ix2 (pix p r) j) ≤ e then (W (ix2 (pix p r) j) : EReal) else 0) * P (ix2 j q)) = (pooled X k p q : EReal) := by
  rw [pooled, coe_sum]
  refine Finset.sum_congr rfl fun r _ => ?_
  rw [← sum_member (fun j => if (k : ℤ) ≤ pbin X (pix p r) j then mass X (pix p r) j else 0) q, coe_sum]
  refine Finset.sum_congr rfl fun j _ => ?_
  rw [hR, hW, hP, he, EReal.coe_mul]
  refine congrArg (· * (member j q : EReal)) ?_
  have := ratio_le_edge_iff (gradX X (pix p r) j) (gradY X (pix p r) j) h1 h8
  by_cases h : (k : ℤ) ≤ pbin X (pix p r) j
  · rw [if_pos h, if_pos (this.2 h)]
  · rw [if_neg h, if_neg fun c => h (this.1 c), EReal.coe_zero]

end

section

variable {X : Fin 512 → Fin 512 → ℝ} {x y E : FVec Ideal S512x512 .f32} {w : FVec Ideal S1x512 .f32}
  {P : FVec Ideal S512x64 .bf16}

/-- The sum over a whole cell. -/
theorem pay15_at (hW : ∀ i j, k0_pay13 (F := Ideal) w E (ix2 i j) = (mass X i j : EReal))
    (hP : ∀ j q, P (ix2 j q) = (member j q : EReal)) (p q : Fin 64) :
    k0_pay15 (F := Ideal) w E P (ix2 p q) = (pooled X 0 p q : EReal) := by
  pointwise [k0_pay15, k0_pay14]
  simp only [hW, hP, ← EReal.coe_mul, ← coe_sum, sum_member, pooled_zero]
  rfl

/-- The sum over the pixels in bin one or later. -/
theorem pay16_at (hR : ∀ i j, k0_pay12 (F := Ideal) x y (ix2 i j) = ratio (gradX X i j) (gradY X i j))
    (hW : ∀ i j, k0_pay13 (F := Ideal) w E (ix2 i j) = (mass X i j : EReal))
    (hP : ∀ j q, P (ix2 j q) = (member j q : EReal)) (p q : Fin 64) :
    k0_pay16 (F := Ideal) x y w E P (ix2 p q) = (pooled X 1 p q : EReal) := by
  pointwise [k0_pay16, k0_pay14]
  exact pool_at hR hW hP (by omega) (by omega) (edge_of (by omega) (by omega)
    (IdealRules.named_const.ideal_named_scalar _ _ _ _ rfl) (by norm_num)) p q

/-- The sum over the pixels in bin two or later. -/
theorem pay17_at (hR : ∀ i j, k0_pay12 (F := Ideal) x y (ix2 i j) = ratio (gradX X i j) (gradY X i j))
    (hW : ∀ i j, k0_pay13 (F := Ideal) w E (ix2 i j) = (mass X i j : EReal))
    (hP : ∀ j q, P (ix2 j q) = (member j q : EReal)) (p q : Fin 64) :
    k0_pay17 (F := Ideal) x y w E P (ix2 p q) = (pooled X 2 p q : EReal) := by
  pointwise [k0_pay17, k0_pay14]
  exact pool_at hR hW hP (by omega) (by omega) (edge_of (by omega) (by omega)
    (IdealRules.named_const.ideal_named_scalar _ _ _ _ rfl) (by norm_num)) p q

end

section

variable {X : Fin 512 → Fin 512 → ℝ} {R : FVec Ideal S512x512 .f32} {W : FVec Ideal S512x512 .bf16}
  {P : FVec Ideal S512x64 .bf16} (hR : ∀ i j, R (ix2 i j) = ratio (gradX X i j) (gradY X i j))
  (hW : ∀ i j, W (ix2 i j) = (mass X i j : EReal)) (hP : ∀ j q, P (ix2 j q) = (member j q : EReal))
  (p q : Fin 64)

include hR hW hP

/-- The sum over the pixels in bin three or later. -/
theorem pay19_at : k0_pay19 (F := Ideal) R W P k0_pay18 (ix2 p q) = (pooled X 3 p q : EReal) := by
  pointwise [k0_pay19, k0_pay18]
  exact pool_at hR hW hP (by omega) (by omega) (edge_of (by omega) (by omega)
    (IdealRules.named_const.ideal_named_scalar _ _ _ _ rfl) (by norm_num)) p q

/-- The sum over the pixels in bin four or later. -/
theorem pay20_at : k0_pay20 (F := Ideal) R W P (ix2 p q) = (pooled X 4 p q : EReal) := by
  pointwise [k0_pay20]
  exact pool_at hR hW hP (by omega) (by omega) (edge_of (by omega) (by omega)
    (IdealRules.named_const.ideal_named_scalar _ _ _ _ rfl) (by norm_num)) p q

/-- The sum over the pixels in bin five or later. -/
theorem pay21_at : k0_pay21 (F := Ideal) R W P (ix2 p q) = (pooled X 5 p q : EReal) := by
  pointwise [k0_pay21]
  exact pool_at hR hW hP (by omega) (by omega) (edge_of (by omega) (by omega)
    (IdealRules.named_const.ideal_named_scalar _ _ _ _ rfl) (by norm_num)) p q

/-- The sum over the pixels in bin six or later. -/
theorem pay22_at : k0_pay22 (F := Ideal) R W P (ix2 p q) = (pooled X 6 p q : EReal) := by
  pointwise [k0_pay22]
  exact pool_at hR hW hP (by omega) (by omega) (edge_of (by omega) (by omega)
    (IdealRules.named_const.ideal_named_scalar _ _ _ _ rfl) (by norm_num)) p q

/-- The sum over the pixels in bin seven or later. -/
theorem pay24_at : k0_pay24 (F := Ideal) P (k0_pay23 R W) (ix2 p q) = (pooled X 7 p q : EReal) := by
  pointwise [k0_pay24, k0_pay23]
  exact pool_at hR hW hP (by omega) (by omega) (edge_of (by omega) (by omega)
    (IdealRules.named_const.ideal_named_scalar _ _ _ _ rfl) (by norm_num)) p q

/-- The sum over the pixels in bin eight. -/
theorem pay25_at : k0_pay25 (F := Ideal) R W P (ix2 p q) = (pooled X 8 p q : EReal) := by
  pointwise [k0_pay25]
  exact pool_at hR hW hP (by omega) (by omega) (edge_of (by omega) (by omega)
    (IdealRules.named_const.ideal_named_scalar _ _ _ _ rfl) (by norm_num)) p q

end

end Cert.Proof.Hog

end
-- ==== Proof.Store.lean ====
/-
  The norm of a cell's histogram, and what the body leaves in the output's block: the normalised histogram.
-/
module

public import proofs.«01_k».proof.Proof.Pool

@[expose] public section

set_option maxRecDepth 16384

noncomputable section

open scoped BigOperators

open Idealize.ShloMosaic Idealize.ShloMosaic.TcCoe Idealize.SL.Sem
open Cert.KernelIdeal Cert.KernelIdeal.Gen

namespace Cert.Proof.Hog

/-- The difference of two successive pooled sums, as extended reals. -/
theorem coe_pooled_sub (X : Fin 512 → Fin 512 → ℝ) (k : ℕ) (p q : Fin 64) :
    (pooled X k p q : EReal) - (pooled X (k + 1) p q : EReal) = (hist X k p q : EReal) := by
  rw [← EReal.coe_sub, pooled_sub]

section

variable {X : Fin 512 → Fin 512 → ℝ} {R : FVec Ideal S512x512 .f32} {W : FVec Ideal S512x512 .bf16}
  {P : FVec Ideal S512x64 .bf16} {a0 a1 a2 a3 a4 a5 a6 : FVec Ideal S64x64 .f32}

/-- One over the norm of a cell's histogram. -/
theorem pay34_at (hR : ∀ i j, R (ix2 i j) = ratio (gradX X i j) (gradY X i j))
    (hW : ∀ i j, W (ix2 i j) = (mass X i j : EReal)) (hP : ∀ j q, P (ix2 j q) = (member j q : EReal))
    (h0 : ∀ p q, a0 (ix2 p q) = (pooled X 0 p q : EReal)) (h1 : ∀ p q, a1 (ix2 p q) = (pooled X 1 p q : EReal))
    (h2 : ∀ p q, a2 (ix2 p q) = (pooled X 2 p q : EReal)) (h3 : ∀ p q, a3 (ix2 p q) = (pooled X 3 p q : EReal))
    (h4 : ∀ p q, a4 (ix2 p q) = (pooled X 4 p q : EReal)) (h5 : ∀ p q, a5 (ix2 p q) = (pooled X 5 p q : EReal))
    (h6 : ∀ p q, a6 (ix2 p q) = (pooled X 6 p q : EReal)) (p q : Fin 64) :
    k0_pay34 (F := Ideal) R W P a0 a1 a2 a3 a4 a5 a6 (k0_pay23 R W) (ix2 p q) = ((1 / norm X p q : ℝ) : EReal) := by
  pointwise [k0_pay34, k0_pay26, k0_pay27, k0_pay28, k0_pay29, k0_pay30, k0_pay31, k0_pay32, k0_pay33]
  simp only [h0, h1, h2, h3, h4, h5, h6, pay24_at hR hW hP, pay25_at hR hW hP, coe_pooled_sub, pooled_last,
    ← EReal.coe_mul, ← EReal.coe_add]
  have s : hist X 0 p q * hist X 0 p q + hist X 1 p q * hist X 1 p q + hist X 2 p q * hist X 2 p q
      + hist X 3 p q * hist X 3 p q + hist X 4 p q * hist X 4 p q + hist X 5 p q * hist X 5 p q
      + hist X 6 p q * hist X 6 p q + hist X 7 p q * hist X 7 p q + hist X 8 p q * hist X 8 p q
      = ∑ k : Fin 9, hist X k.val p q * hist X k.val p q := by
    rw [Fin.sum_univ_castSucc, Fin.sum_univ_eight]; rfl
  have d (k : ℕ) (h : k + 1 ≤ 8) : pooled X k p q - pooled X (k + 1) p q = hist X k p q := pooled_sub X k p q
  have d0 := d 0 (by omega)
  have d1 := d 1 (by omega)
  have d2 := d 2 (by omega)
  have d3 := d 3 (by omega)
  have d4 := d 4 (by omega)
  have d5 := d 5 (by omega)
  have d6 := d 6 (by omega)
  have d7 := d 7 (by omega)
  norm_num only at d0 d1 d2 d3 d4 d5 d6 d7
  rw [pooled_last] at d7
  simp only [← EReal.coe_sub, ← EReal.coe_mul, ← EReal.coe_add, d0, d1, d2, d3, d4, d5, d6, d7]
  rw [s, sqrt_coe_of_nonneg (Finset.sum_nonneg fun _ _ => mul_self_nonneg _), lit_eps, ← coe_max, ← EReal.coe_one]
  exact div_coe_coe 1 (norm_pos X p q).ne'

end

/-- One stored tile: a histogram times one over the norm. -/
theorem tile_at {X : Fin 512 → Fin 512 → ℝ} {T N : FVec Ideal S64x64 .f32} {k : ℕ}
    (hT : ∀ p q, T (ix2 p q) = (hist X k p q : EReal)) (hN : ∀ p q, N (ix2 p q) = ((1 / norm X p q : ℝ) : EReal))
    {x : S1x1x64x64.Idx} {y : S9x1x64x64.Idx} (h0 : (y 0).val = k) (h2 : (y 2).val = (x 2).val)
    (h3 : (y 3).val = (x 3).val) : k0_pay2 (F := Ideal) T N x = (result X (y 0).val (y 2) (y 3) : EReal) := by
  have e : k0_pay2 (F := Ideal) T N x = T (ix2 (x 2) (x 3)) * N (ix2 (x 2) (x 3)) := by
    idx_vars x
    pointwise [k0_pay2]
  have e2 : (y 2 : Fin 64) = x 2 := Fin.ext h2
  have e3 : (y 3 : Fin 64) = x 3 := Fin.ext h3
  refine e.trans ((congrArg₂ (· * ·) (hT _ _) (hN _ _)).trans ?_)
  rw [h0, e2, e3, ← EReal.coe_mul]
  rfl

section

variable {x0 : Vec Ideal S1x1x512x512 .f32} {x1 x2 : Vec Ideal S512x512 .bf16} {x3 : Vec Ideal S512x64 .bf16}
  {X : Fin 512 → Fin 512 → ℝ}

/-- The output's block after the body. -/
theorem out_at (hx : ∀ i j, x0 (ix4 0 0 i j) = (X i j : EReal)) (hk : ∀ i k, x1 (ix2 i k) = (smooth i k : EReal))
    (hc : ∀ k j, x2 (ix2 k j) = (smooth j k : EReal)) (hp : ∀ j q, x3 (ix2 j q) = (member j q : EReal))
    (y : S9x1x64x64.Idx) : out0_4 (F := Ideal) x0 x1 x2 x3 y = (result X (y 0).val (y 2) (y 3) : EReal) := by
  have l0 : View.ld x0 r0_0 = x0 := View.ld_unit_zero (by decide) _ _
  have l1 : View.ld x1 r0_1 = x1 := View.ld_unit_zero (by decide) _ _
  have l2 : View.ld x2 r0_1 = x2 := View.ld_unit_zero (by decide) _ _
  have l3 : View.ld x3 r0_2 = x3 := View.ld_unit_zero (by decide) _ _
  have hR' : ∀ i j, k0_pay12 (F := Ideal) (k0_pay43 x0 x1 x2 x3) (k0_pay44 x0 x1 x2 x3) (ix2 i j)
      = ratio (gradX X i j) (gradY X i j) := by
    intro i j
    rw [k0_pay43, k0_pay44, l0, l1, l2]
    exact pay12_at (pay4_at hx hk i j) (pay5_at hx hc i j)
  have hW' : ∀ i j, k0_pay13 (F := Ideal) (k0_pay45 x0 x1 x2 x3) (k0_pay46 x0 x1 x2 x3) (ix2 i j)
      = (mass X i j : EReal) := by
    intro i j
    rw [k0_pay45, k0_pay46, l0, l1, l2, pay13_at, pay10_at, pay11_at, pay6_at hx hk hc, ← EReal.coe_mul, ← EReal.coe_mul]
    rfl
  have hR : ∀ i j, k0_pay47 (F := Ideal) x0 x1 x2 x3 (ix2 i j) = ratio (gradX X i j) (gradY X i j) := hR'
  have hW : ∀ i j, k0_pay48 (F := Ideal) x0 x1 x2 x3 (ix2 i j) = (mass X i j : EReal) := hW'
  have hP' : ∀ j q, View.ld x3 r0_2 (ix2 j q) = (member j q : EReal) := by
    intro j q; rw [l3, hp]
  have hP : ∀ j q, k0_pay49 (F := Ideal) x0 x1 x2 x3 (ix2 j q) = (member j q : EReal) := by
    intro j q
    rw [k0_pay49, l3]
    pointwise [k0_pay14]
    exact hp j q
  have q0 : ∀ p q, k0_pay50 (F := Ideal) x0 x1 x2 x3 (ix2 p q) = (pooled X 0 p q : EReal) := pay15_at hW' hP'
  have q1 : ∀ p q, k0_pay51 (F := Ideal) x0 x1 x2 x3 (ix2 p q) = (pooled X 1 p q : EReal) := pay16_at hR' hW' hP'
  have q2 : ∀ p q, k0_pay52 (F := Ideal) x0 x1 x2 x3 (ix2 p q) = (pooled X 2 p q : EReal) := pay17_at hR' hW' hP'
  have q3 : ∀ p q, k0_pay53 (F := Ideal) x0 x1 x2 x3 (ix2 p q) = (pooled X 3 p q : EReal) := pay19_at hR hW hP
  have q4 : ∀ p q, k0_pay54 (F := Ideal) x0 x1 x2 x3 (ix2 p q) = (pooled X 4 p q : EReal) := pay20_at hR hW hP
  have q5 : ∀ p q, k0_pay55 (F := Ideal) x0 x1 x2 x3 (ix2 p q) = (pooled X 5 p q : EReal) := pay21_at hR hW hP
  have q6 : ∀ p q, k0_pay56 (F := Ideal) x0 x1 x2 x3 (ix2 p q) = (pooled X 6 p q : EReal) := pay22_at hR hW hP
  have q7 := pay24_at hR hW hP
  have q8 := pay25_at hR hW hP
  have hN : ∀ p q, k0_pay58 (F := Ideal) x0 x1 x2 x3 (ix2 p q) = ((1 / norm X p q : ℝ) : EReal) :=
    pay34_at hR hW hP q0 q1 q2 q3 q4 q5 q6
  have d {A B : FVec Ideal S64x64 .f32} {k : ℕ} (ha : ∀ p q, A (ix2 p q) = (pooled X k p q : EReal))
      (hb : ∀ p q, B (ix2 p q) = (pooled X (k + 1) p q : EReal)) (p q : Fin 64) :
      k0_pay26 (F := Ideal) A B (ix2 p q) = (hist X k p q : EReal) := by
    pointwise [k0_pay26]
    rw [ha, hb, coe_pooled_sub]
  canon_tiles x h
  case piece0 => exact tile_at (fun p q => by rw [q8, pooled_last]) hN (by omega) h2 h3
  case piece1 => exact tile_at (d q7 q8) hN (by omega) h2 h3
  case piece2 => exact tile_at (d q6 q7) hN (by omega) h2 h3
  case piece3 => exact tile_at (d q5 q6) hN (by omega) h2 h3
  case piece4 => exact tile_at (d q4 q5) hN (by omega) h2 h3
  case piece5 => exact tile_at (d q3 q4) hN (by omega) h2 h3
  case piece6 => exact tile_at (d q2 q3) hN (by omega) h2 h3
  case piece7 => exact tile_at (d q1 q2) hN (by omega) h2 h3
  case piece8 => exact tile_at (d q0 q1) hN (by omega) h2 h3

end

end Cert.Proof.Hog

end
-- ==== Proof.Prefix.lean ====
/-
  What the host operations before the kernel's region put in the three constant operands: the smoothing matrix, its
  transpose and the pooling matrix.
-/
module

public import proofs.«01_k».proof.Proof.Store
public import Idealize.ShloMosaic.Lib.StableHlo.ReadAt

@[expose] public section

set_option maxRecDepth 16384

noncomputable section

open Idealize.ShloMosaic Idealize.ShloMosaic.TcCoe Idealize.SL.Sem
open Cert.KernelIdeal Cert.KernelIdeal.Gen

namespace Cert.Proof.Hog

/-- The comparison of two small numbers as words. -/
theorem cmpi_eq_small {a b : ℕ} (ha : a < 512) (hb : b < 512) :
    IntOp.cmpi .eq (BitVec.ofNat 32 a) (BitVec.ofNat 32 b) = if a = b then 1#1 else 0#1 := by
  have e : (BitVec.ofNat 32 a = BitVec.ofNat 32 b) ↔ a = b := by
    constructor
    · intro h
      have := congrArg BitVec.toNat h
      simp only [BitVec.toNat_ofNat] at this
      omega
    · rintro rfl; rfl
  by_cases h : a = b
  · subst h; rw [if_pos rfl]; simp [IntOp.cmpi]
  · rw [if_neg h]
    show BitVec.ofBool (BitVec.ofNat 32 a == BitVec.ofNat 32 b) = 0#1
    rw [beq_eq_false_iff_ne.2 (mt e.1 h)]; rfl

/-- A choice by that comparison. -/
theorem select_small {α : Type} {a b : ℕ} (ha : a < 512) (hb : b < 512) (x y : α) :
    Scalar.select (IntOp.cmpi .eq (BitVec.ofNat 32 a) (BitVec.ofNat 32 b)) x y = if a = b then x else y := by
  rw [cmpi_eq_small ha hb]
  split <;> rfl

/-- The row before, as the host computes it. -/
theorem lo_word : ∀ i : Fin 512, IntOp.absi (IntOp.subi (BitVec.ofNat 32 i.val) 1#32) = BitVec.ofNat 32 (lo i).val := by
  decide +kernel

/-- The row after. -/
theorem hi_word : ∀ i : Fin 512,
    IntOp.subi (511#32) (IntOp.absi (IntOp.subi (510#32) (BitVec.ofNat 32 i.val))) = BitVec.ofNat 32 (hi i).val := by
  decide +kernel

/-- The cell of a column. -/
theorem cell_word : ∀ j : Fin 512, IntOp.divsi .host (BitVec.ofNat 32 j.val) 8#32 = BitVec.ofNat 32 (j.val / 8) := by
  decide +kernel

/-- The host's three choices are the entry of the smoothing matrix. -/
theorem smooth_choices (i k : Fin 512) :
    Scalar.select (IntOp.cmpi .eq (BitVec.ofNat 32 k.val) (IntOp.absi (IntOp.subi (BitVec.ofNat 32 i.val) 1#32)))
        (1 : EReal) 0 +
      Scalar.select (IntOp.cmpi .eq (BitVec.ofNat 32 k.val) (BitVec.ofNat 32 i.val)) (Ideal.ofBits .f32 0x40000000#32) 0 +
      Scalar.select (IntOp.cmpi .eq (BitVec.ofNat 32 k.val)
        (IntOp.subi (511#32) (IntOp.absi (IntOp.subi (510#32) (BitVec.ofNat 32 i.val))))) 1 0
      = (smooth i k : EReal) := by
  rw [lo_word, hi_word, select_small k.isLt (lo i).isLt, select_small k.isLt i.isLt, select_small k.isLt (hi i).isLt,
    lit_two, smooth, EReal.coe_add, EReal.coe_add]
  simp only [Fin.ext_iff]
  refine congrArg₂ (· + ·) (congrArg₂ (· + ·) ?_ ?_) ?_ <;> split <;> simp

variable (m : (ℓ : Loc nD τ sig) → Buf (Elt Ideal) ℓ)

/-- The smoothing matrix. -/
theorem V_rows (c : Dev nD) (i k : Fin 512) : V m c main_v18 (ix2 i k) = (smooth i k : EReal) := by
  unfold V
  after_reads_at
  exact smooth_choices i k

/-- Its transpose. -/
theorem V_cols (c : Dev nD) (k j : Fin 512) : V m c main_v38 (ix2 k j) = (smooth j k : EReal) := by
  unfold V
  after_reads_at
  exact smooth_choices j k

/-- The pooling matrix. -/
theorem V_member (c : Dev nD) (j : Fin 512) (q : Fin 64) : V m c main_v44 (ix2 j q) = (member j q : EReal) := by
  unfold V
  after_reads_at
  rw [cell_word, cmpi_eq_small (by omega) (by omega), member]
  split
  · show (((1#1).toNat : ℝ) : EReal) = _
    simp
  · show (((0#1).toNat : ℝ) : EReal) = _
    simp

end Cert.Proof.Hog

end
-- ==== Proof.Array.lean ====
/-
  What the output's array holds after the kernel's region, and what the result holds after the reshape and the
  transpose that follow it.
-/
module

public import proofs.«01_k».proof.Proof.Prefix

@[expose] public section

set_option maxRecDepth 16384

noncomputable section

open Idealize.ShloMosaic Idealize.ShloMosaic.TcCoe Idealize.SL.Sem
open Cert.KernelIdeal Cert.KernelIdeal.Gen

namespace Cert.Proof.Hog

variable (m : (ℓ : Loc nD τ sig) → Buf (Elt Ideal) ℓ)

/-- The windows' index maps. -/
theorem idx : ∀ t : Fin cfg0.N, win0_0.index t = ![t.val, 0, 0, 0] ∧ win0_1.index t = ![0, 0]
    ∧ win0_2.index t = ![0, 0] ∧ win0_3.index t = ![0, 0] ∧ win0_4.index t = ![0, t.val, 0, 0] ∧ t.val < 16 :=
  (by decide +kernel : ∀ t : Fin grid0.N, _)

/-- The images, as real numbers. -/
def IsImages (x : FVec Ideal S16x1x512x512 .f32) (X : Fin 16 → Fin 512 → Fin 512 → ℝ) : Prop :=
  ∀ b i j, x (ix4 b 0 i j) = (X b i j : EReal)

/-- The image's block at a point. -/
theorem blk0_at {X : Fin 16 → Fin 512 → Fin 512 → ℝ} (c : Dev nD)
    (hX : IsImages (m ((c : Thread nD τ).loc main_arg0)) X) (t : Fin cfg0.N) (i j : Fin 512) :
    iblk m c 0 t (ix4 0 0 i j) = (X ⟨t.val, (idx t).2.2.2.2.2⟩ i j : EReal) := by
  rw [← hX]
  blk_ext [iblk, V, idx t]

/-- The smoothing matrix's block. -/
theorem blk1_at (c : Dev nD) (t : Fin cfg0.N) (i k : Fin 512) : iblk m c 1 t (ix2 i k) = (smooth i k : EReal) := by
  rw [← V_rows m c]
  blk_ext [iblk, idx t]

/-- Its transpose's block. -/
theorem blk2_at (c : Dev nD) (t : Fin cfg0.N) (k j : Fin 512) : iblk m c 2 t (ix2 k j) = (smooth j k : EReal) := by
  rw [← V_cols m c]
  blk_ext [iblk, idx t]

/-- The pooling matrix's block. -/
theorem blk3_at (c : Dev nD) (t : Fin cfg0.N) (j : Fin 512) (q : Fin 64) :
    iblk m c 3 t (ix2 j q) = (member j q : EReal) := by
  rw [← V_member m c]
  blk_ext [iblk, idx t]

/-- The result at equal places. -/
theorem result_congr (X : Fin 16 → Fin 512 → Fin 512 → ℝ) {b b' : Fin 16} {k k' : ℕ} {p p' q q' : Fin 64}
    (hb : b.val = b'.val) (hk : k = k') (hp : p.val = p'.val) (hq : q.val = q'.val) :
    (result (X b) k p q : EReal) = (result (X b') k' p' q' : EReal) := by
  rw [Fin.ext hb, hk, Fin.ext hp, Fin.ext hq]

/-- The output's array after the region. -/
theorem final {X : Fin 16 → Fin 512 → Fin 512 → ℝ} (c : Dev nD)
    (hX : IsImages (m ((c : Thread nD τ).loc main_arg0)) X) :
    (dats m 0 c).arrAt 4 (cfgs 0).N
      = fun y : S9x16x64x64.Idx => (result (X (y 1)) (y 0).val (y 2) (y 3) : EReal) := by
  refine (dats m 0 c).arrAt_eq_of_covers 4 _ (by decide +kernel) fun t _ y => ?_
  blk_simp
  rw [after0_4]
  refine (out_at (blk0_at m c hX t) (blk1_at m c t) (blk2_at m c t) (blk3_at m c t) y).trans ?_
  refine result_congr X ?_ ?_ ?_ ?_ <;> blk_simp [idx t]

end Cert.Proof.Hog

end
-- ==== Proof.KernelRun.lean ====
/-
  The run of the idealized kernel: its result is the normalised histogram of every image.
-/
module

public import proofs.«01_k».proof.Proof.Array
public import Idealize.ShloMosaic.Lib.Claim

@[expose] public section

set_option maxRecDepth 16384

noncomputable section

open Idealize.ShloMosaic Idealize.ShloMosaic.TcCoe Idealize.SL.Sem
open Cert.KernelIdeal Cert.KernelIdeal.Gen

namespace Cert.Proof.Hog

/-- The result both programs end with, over the images. -/
def results (X : Fin 16 → Fin 512 → Fin 512 → ℝ) : FVec Ideal S16x4096x9 .f32 := fun y =>
  (result (X (y 0)) (y 2).val ⟨(y 1).val / 64, by idx_bounds; omega⟩ ⟨(y 1).val % 64, by omega⟩ : EReal)

/-- The kernel's run, its result in closed form. -/
theorem kernel_run (m : (ℓ : Loc nD τ sig) → Buf (Elt Ideal) ℓ) (g : Dev nD → PrngReg)
    (X : Dev nD → Fin 16 → Fin 512 → Fin 512 → ℝ)
    (hX : ∀ c : Dev nD, IsImages (m ((c : Thread nD τ).loc main_arg0)) (X c)) :
    θ_run (defs (F := Ideal)) (onTc (τ := τ) (main (F := Ideal))) ⟨m, fun _ => 0, g⟩ (fun r => ∀ c : Dev nD,
      r.2.mem ((c.tc : Thread nD τ).loc main_v47) = results (X c)
      ∧ r.2.mem ((c.tc : Thread nD τ).loc main_arg0) = m ((c.tc : Thread nD τ).loc main_arg0)) := by
  run_from Cert.KernelIdeal.Gen.run_main m g
  funext y
  idx_vars y
  unfold Pipeline.afterTail₀
  after_reads_at
  have h := (Pipeline.withArrays_arr (cfgs 0).spec launch0.win.arr_inj c (V0 m c)
    (fun w => (dats m 0 c).arrAt w (cfgs 0).N) 4).trans (final m c (hX c))
  exact congrFun h _

end Cert.Proof.Hog

end
-- ==== Proof.RefGrad.lean ====
/-
  The gradients of the reference: its array padded by reflection, read at an index, and the two sums of eight
  shifted copies, over the reals.
-/
module

public import proofs.«01_k».proof.Proof.Gen.ReferenceIdeal.Run
public import proofs.«01_k».proof.Proof.Ext
public import Idealize.ShloMosaic.Lib.Pointwise
public import Idealize.ShloMosaic.Lib.StableHlo.ReadAt

@[expose] public section

set_option maxRecDepth 16384

noncomputable section

open scoped BigOperators

open Idealize.ShloMosaic Idealize.ShloMosaic.TcCoe Idealize.SL.Sem
open Cert.ReferenceIdeal Cert.ReferenceIdeal.Value

namespace Cert.Proof.Hog

/-- The row or column of the image that the padded array holds at `i`. -/
def refl (i : Fin 514) : Fin 512 :=
  ⟨if i.val = 0 then 1 else if i.val = 513 then 510 else i.val - 1, by split <;> [omega; split <;> omega]⟩

/-- The padded array's place `i` holds the row before `i`. -/
theorem refl_lo (i : Fin 512) (p : i.val < 514) : refl ⟨i.val, p⟩ = lo i := by
  apply Fin.ext; simp only [refl, lo]; split
  · rfl
  · rw [if_neg (by omega)]

/-- Its place `1 + i` holds the row `i`. -/
theorem refl_mid (i : Fin 512) (p : 1 + i.val < 514) : refl ⟨1 + i.val, p⟩ = i := by
  apply Fin.ext; simp only [refl]; rw [if_neg (by omega), if_neg (by omega)]; omega

/-- Its place `2 + i` holds the row after `i`. -/
theorem refl_hi (i : Fin 512) (p : 2 + i.val < 514) : refl ⟨2 + i.val, p⟩ = hi i := by
  apply Fin.ext; simp only [refl, hi]; rw [if_neg (by omega)]; split
  · rw [if_pos (by omega)]
  · rw [if_neg (by omega)]; omega

/-- The rows, padded. -/
theorem pad_rows (V0 : Valuation τ sig (Elt Ideal)) (b : Fin 16) (i : Fin 514) (j : Fin 512) :
    res_main_call0_v7 V0 (ix4 b 0 i j) = V0 (Proc.devRef .tc main_arg0) (ix4 b 0 (refl i) j) := by
  clean_types
  pointwise [res_main_call0_v7, res_main_call0_v3]
  by_cases h : i.val < 513
  · rw [dif_pos h]
    by_cases h' : i.val < 1
    · rw [dif_pos h']
      have e : refl i = 1 := by apply Fin.ext; simp only [refl]; rw [if_pos (by omega)]; rfl
      rw [e]; rfl
    · rw [dif_neg h']
      have e : (⟨i.val - 1, by omega⟩ : Fin 512) = refl i := by
        apply Fin.ext; simp only [refl]; rw [if_neg (by omega), if_neg (by omega)]
      rw [← e]
  · rw [dif_neg h]
    have e : refl i = 510 := by apply Fin.ext; simp only [refl]; rw [if_neg (by omega), if_pos (by omega)]; rfl
    rw [e]; rfl

/-- The rows and the columns, padded. -/
theorem pad_at (V0 : Valuation τ sig (Elt Ideal)) (b : Fin 16) (i : Fin 514) (j : Fin 514) :
    res_main_v0 V0 (ix4 b 0 i j) = V0 (Proc.devRef .tc main_arg0) (ix4 b 0 (refl i) (refl j)) := by
  clean_types
  pointwise [res_main_v0, res_main_call0_v11]
  by_cases h : j.val < 513
  · rw [dif_pos h]
    by_cases h' : j.val < 1
    · rw [dif_pos h']
      have e : refl j = 1 := by apply Fin.ext; simp only [refl]; rw [if_pos (by omega)]; rfl
      rw [e]; exact pad_rows V0 b i 1
    · rw [dif_neg h']
      have e : (⟨j.val - 1, by omega⟩ : Fin 512) = refl j := by
        apply Fin.ext; simp only [refl]; rw [if_neg (by omega), if_neg (by omega)]
      rw [← e]; exact pad_rows V0 b i _
  · rw [dif_neg h]
    have e : refl j = 510 := by apply Fin.ext; simp only [refl]; rw [if_neg (by omega), if_pos (by omega)]; rfl
    rw [e]; exact pad_rows V0 b i 510

section

variable {V0 : Valuation τ sig (Elt Ideal)} {X : Fin 16 → Fin 512 → Fin 512 → ℝ}
  (hx : ∀ b i j, V0 (Proc.devRef .tc main_arg0) (ix4 b 0 i j) = ((X b i j : ℝ) : EReal))

include hx

/-- The padded array over the reals. -/
theorem pad_real (b : Fin 16) (i j : Fin 514) :
    res_main_v0 V0 (ix4 b 0 i j) = ((X b (refl i) (refl j) : ℝ) : EReal) :=
  (pad_at V0 b i j).trans (hx b _ _)

/-- The reference's gradient along the columns. -/
theorem ref_gradX (b : Fin 16) (i j : Fin 512) :
    res_main_v15 V0 (ix4 b 0 i j) = ((gradX (X b) i j : ℝ) : EReal) := by
  have h := pad_real hx b
  revert h
  clean_types
  intro h
  pointwise [res_main_v15]
  simp only [h, lit_two, refl_lo, refl_mid, refl_hi]
  norm_cast
  simp only [gradX]; ring

/-- The reference's gradient along the rows. -/
theorem ref_gradY (b : Fin 16) (i j : Fin 512) :
    res_main_v30 V0 (ix4 b 0 i j) = ((gradY (X b) i j : ℝ) : EReal) := by
  have h := pad_real hx b
  revert h
  clean_types
  intro h
  pointwise [res_main_v30]
  simp only [h, lit_two, refl_lo, refl_mid, refl_hi]
  norm_cast
  simp only [gradY]; ring

end

end Cert.Proof.Hog

end
-- ==== Proof.RefBins.lean ====
/-
  The bins of the reference: the turn as a word, the word's remainder by nine, and the comparison of the remainder
  with a bin's number.
-/
module

public import proofs.«01_k».proof.Proof.RefGrad

@[expose] public section

set_option maxRecDepth 16384

noncomputable section

open scoped BigOperators

open Idealize.ShloMosaic Idealize.ShloMosaic.TcCoe Idealize.SL.Sem
open Cert.ReferenceIdeal Cert.ReferenceIdeal.Value

namespace Cert.Proof.Hog

/-- The divisor of the remainder, as the reference writes it. -/
theorem nine_word : (Scalar.select (IntOp.cmpi .eq 9#32 0#32) (1#32) (9#32) : BitVec 32) = 9#32 := by decide

/-- The comparison of a bin's number with the remainder of a small word by nine. -/
theorem bin_word : ∀ (n : Fin 19) (k : Fin 9),
    IntOp.cmpi .eq (BitVec.ofNat 32 k.val)
      (Scalar.select
        (IntOp.andi
          (IntOp.cmpi .ne (IntOp.cmpi .slt (IntOp.remsi .host (BitVec.ofInt 32 ((n.val : ℤ) - 9)) 9#32) 0#32)
            (IntOp.cmpi .slt 9#32 0#32))
          (IntOp.cmpi .ne (IntOp.remsi .host (BitVec.ofInt 32 ((n.val : ℤ) - 9)) 9#32) 0#32))
        (IntOp.addi (IntOp.remsi .host (BitVec.ofInt 32 ((n.val : ℤ) - 9)) 9#32) 9#32)
        (IntOp.remsi .host (BitVec.ofInt 32 ((n.val : ℤ) - 9)) 9#32))
      = if ((n.val : ℤ) - 9) % 9 = (k.val : ℤ) then 1#1 else 0#1 := by
  decide +kernel

/-- The same, for a word that is a turn. -/
theorem bin_word_of {t : ℤ} (h : -9 ≤ t ∧ t ≤ 9) (k : Fin 9) :
    IntOp.cmpi .eq (BitVec.ofNat 32 k.val)
      (Scalar.select
        (IntOp.andi
          (IntOp.cmpi .ne (IntOp.cmpi .slt (IntOp.remsi .host (BitVec.ofInt 32 t) 9#32) 0#32)
            (IntOp.cmpi .slt 9#32 0#32))
          (IntOp.cmpi .ne (IntOp.remsi .host (BitVec.ofInt 32 t) 9#32) 0#32))
        (IntOp.addi (IntOp.remsi .host (BitVec.ofInt 32 t) 9#32) 9#32)
        (IntOp.remsi .host (BitVec.ofInt 32 t) 9#32))
      = if t % 9 = (k.val : ℤ) then 1#1 else 0#1 := by
  have e : (((t + 9).toNat : ℕ) : ℤ) - 9 = t := by omega
  have := bin_word ⟨(t + 9).toNat, by omega⟩ k
  simp only [e] at this
  exact this

/-- Half a turn, as the reference computes it. -/
theorem half_turn : angle 0 (-1) = Real.pi := by simp [angle]

/-- A small integer, as a word. -/
theorem fptosi_int {t : ℤ} (h : -9 ≤ t ∧ t ≤ 9) :
    FloatOps.fptosi (F := Ideal) (φ := .f32) 32 (((t : ℤ) : ℝ) : EReal) = BitVec.ofInt 32 t := by
  show BitVec.ofInt 32 (Ideal.toIntClamped _ _ (((t : ℤ) : ℝ) : EReal)) = _
  rw [Ideal.toIntClamped_coe, Int.floor_intCast, Int.ceil_intCast, ite_self]
  congr 1
  norm_num
  omega

/-- The turn of two gradients, as a word. -/
theorem turn_word (gx gy : ℝ) :
    FloatOps.fptosi (F := Ideal) (φ := .f32) 32
      (Ideal.liftRound Int.floor
        (Ideal.div (Ideal.atan2 (gx : EReal) (gy : EReal)) (Ideal.atan2 0 (Ideal.ofBits .f32 0xBF800000#32))
          * Ideal.ofBits .f32 0x41100000#32)) = BitVec.ofInt 32 (turn gx gy) := by
  rw [lit_neg_one, lit_nine, atan2_coe, ← EReal.coe_zero, atan2_coe, half_turn, div_coe_coe _ Real.pi_pos.ne',
    ← EReal.coe_mul, Ideal.liftRound_coe]
  exact fptosi_int (turn_bounds gx gy)

section

variable {V0 : Valuation τ sig (Elt Ideal)} {X : Fin 16 → Fin 512 → Fin 512 → ℝ}
  (hx : ∀ b i j, V0 (Proc.devRef .tc main_arg0) (ix4 b 0 i j) = ((X b i j : ℝ) : EReal))

include hx

/-- The remainder of a pixel's turn by nine. -/
theorem ref_rem (b : Fin 16) (i j : Fin 512) :
    res_main_call1_v4 V0 (ix5 b 0 0 i j)
      = IntOp.remsi .host (BitVec.ofInt 32 (turn (gradX (X b) i j) (gradY (X b) i j))) 9#32 := by
  have h1 := ref_gradX hx b i j
  have h2 := ref_gradY hx b i j
  revert h1 h2
  clean_types
  intro h1 h2
  pointwise [res_main_call1_v4, res_main_call1_v2, res_main_call1_v0, h1, h2, id_eq, turn_word]
  rw [nine_word]

end

end Cert.Proof.Hog

end
-- ==== Proof.RefWeight.lean ====
/-
  The weights of the reference: the sixteen Gaussian weights, their outer product, and the product divided by the
  sum of its elements.
-/
module

public import proofs.«01_k».proof.Proof.Gen.ReferenceIdeal.Run
public import proofs.«01_k».proof.Proof.Ext
public import Idealize.ShloMosaic.Lib.Pointwise
public import Idealize.ShloMosaic.Lib.StableHlo.ReadAt

@[expose] public section

set_option maxRecDepth 16384

noncomputable section

open scoped BigOperators

open Idealize.ShloMosaic Idealize.ShloMosaic.TcCoe Idealize.SL.Sem
open Cert.ReferenceIdeal Cert.ReferenceIdeal.Value

namespace Cert.Proof.Hog

/-- The sum of the numbers below sixteen. -/
theorem sum_places : ∑ a : Fin 16, ((a.val : ℕ) : ℝ) = 120 := by
  simp [Fin.sum_univ_succ]; norm_num

/-- A place less the mean of the sixteen, divided by eight. -/
theorem place_at (V0 : Valuation τ sig (Elt Ideal)) (a : Fin 16) :
    res_main_v49 V0 (ix1 a) = (((((a.val : ℕ) : ℝ) - 15 / 2) * (1 / 8) : ℝ) : EReal) := by
  have hs : ∀ x : Fin 16, FloatOps.sitofp (F := Ideal) .f32 (BitVec.ofNat 32 x.val) = (((x.val : ℕ) : ℝ) : EReal) :=
    fun x => sitofp_ofNat (by omega)
  clean_types
  pointwise [res_main_v49, res_main_v43]
  simp only [hs, ← coe_sum, sum_places, lit_sixteen, lit_eight]
  rw [div_coe_coe 120 (by norm_num), ← EReal.coe_sub, div_coe_coe _ (by norm_num)]
  congr 1; ring

/-- A weight. -/
theorem ref_weight (V0 : Valuation τ sig (Elt Ideal)) (a : Fin 16) :
    res_main_v53 V0 (ix1 a) = ((weight a.val : ℝ) : EReal) := by
  have h := place_at V0 a
  revert h
  clean_types
  intro h
  pointwise [res_main_v53]
  simp only [h, lit_neg_half]
  rw [← EReal.coe_mul, ← EReal.coe_mul, Ideal.exp_coe, weight, Nat.mod_eq_of_lt a.isLt]

/-- The outer product of the weights. -/
theorem ref_outer (V0 : Valuation τ sig (Elt Ideal)) (a b : Fin 16) :
    res_main_v58 V0 (ix2 a b) = ((weight a.val * weight b.val : ℝ) : EReal) := by
  have h := ref_weight V0
  revert h
  clean_types
  intro h
  pointwise [res_main_v58]
  simp only [h]
  rw [EReal.coe_mul]

end Cert.Proof.Hog

end
-- ==== Proof.RefPool.lean ====
/-
  The reference's sum over the cells: the array whose rows and columns are each split into sixty-four groups of
  eight, summed over the places in the groups.
-/
module

public import proofs.«01_k».proof.Proof.Gen.ReferenceIdeal.Run
public import proofs.«01_k».proof.Proof.Ext
public import Idealize.ShloMosaic.Lib.Pointwise
public import Idealize.ShloMosaic.Lib.StableHlo.ReadAt

@[expose] public section

set_option maxRecDepth 16384

noncomputable section

open scoped BigOperators

open Idealize.ShloMosaic Idealize.ShloMosaic.TcCoe Idealize.SL.Sem
open Cert.ReferenceIdeal Cert.ReferenceIdeal.Value

namespace Cert.Proof.Hog

/-- The index of the split array at place `(r, s)` of cell `(p, q)`. -/
def cellIx (b : Fin 16) (k : Fin 9) (p : Fin 64) (r : Fin 8) (q : Fin 64) (s : Fin 8) : S16x1x9x64x8x64x8.Idx :=
  fun i => match i with
    | ⟨0, _⟩ => b | ⟨1, _⟩ => (0 : Fin 1) | ⟨2, _⟩ => k | ⟨3, _⟩ => p | ⟨4, _⟩ => r | ⟨5, _⟩ => q | ⟨6, _⟩ => s

/-- The row-major position of an index of the split array. -/
theorem cellIx_val (b : Fin 16) (k : Fin 9) (p : Fin 64) (r : Fin 8) (q : Fin 64) (s : Fin 8) :
    (S16x1x9x64x8x64x8.rowMajor (cellIx b k p r q s) : ℕ)
      = b.val * 2359296 + k.val * 262144 + p.val * 4096 + r.val * 512 + q.val * 8 + s.val := by
  show (Shape.rowMajorPi _ (cellIx b k p r q s)).val = _
  simp [Shape.rowMajorPi_succ_val, Fin.prod_univ_succ, Shape.rowMajorPi_fin0_val]
  show b.val * 2359296 + (k.val * 262144 + (p.val * 4096 + (r.val * 512 + (q.val * 8 + s.val)))) = _
  omega

/-- The split array holds the pixel of the cell at the place. -/
theorem split_at (x : FVec Ideal S16x1x9x512x512 .f32) (h : S16x1x9x512x512.ShapeCasts S16x1x9x64x8x64x8)
    (b : Fin 16) (k : Fin 9) (p : Fin 64) (r : Fin 8) (q : Fin 64) (s : Fin 8) :
    shapeCast S16x1x9x64x8x64x8 x h (cellIx b k p r q s) = x (ix5 b 0 k (pix p r) (pix q s)) := by
  refine shapeCast_apply x h _ _ ?_
  rw [cellIx_val, rowMajor_val5 _ 2359296 2359296 262144 512 rfl rfl rfl rfl]
  show b.val * 2359296 + 0 * 2359296 + k.val * 262144 + (p.val * 8 + r.val) * 512 + (q.val * 8 + s.val) = _
  ring

/-- The indices that the sum over the places takes to one cell. -/
theorem fiber_cell (h : S16x1x9x64x8x64x8.ReducesTo [4, 6] S16x1x9x64x64) (b : Fin 16) (k : Fin 9) (p q : Fin 64)
    (i : S16x1x9x64x8x64x8.Idx) :
    h.drop i = ix5 b 0 k p q ↔ ∃ t : Fin 8 × Fin 8, cellIx b k p t.1 q t.2 = i := by
  constructor
  · intro e
    refine ⟨(i 4, i 6), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => exact (congrArg Fin.val (congrFun e 4)).symm
    | ⟨6, _⟩ => rfl
  · rintro ⟨t, rfl⟩
    funext a; apply Fin.ext
    match a with
    | ⟨0, _⟩ => rfl
    | ⟨1, _⟩ => rfl
    | ⟨2, _⟩ => rfl
    | ⟨3, _⟩ => rfl
    | ⟨4, _⟩ => rfl

/-- The sum over the cells. -/
theorem cell_sum (x : FVec Ideal S16x1x9x512x512 .f32) (h : S16x1x9x512x512.ShapeCasts S16x1x9x64x8x64x8)
    (h' : S16x1x9x64x8x64x8.ReducesTo [4, 6] S16x1x9x64x64) (b : Fin 16) (k : Fin 9) (p q : Fin 64) :
    Ideal.hostReduceAdd h' (shapeCast S16x1x9x64x8x64x8 x h) 0 (ix5 b 0 k p q)
      = ∑ r : Fin 8, ∑ s : Fin 8, x (ix5 b 0 k (pix p r) (pix q s)) := by
  unfold Ideal.hostReduceAdd
  rw [zero_add]
  refine (Finset.sum_filter_eq_sum_of_fiber _ (fun t : Fin 8 × Fin 8 => cellIx b k p t.1 q t.2)
    (fun _ _ e => Prod.ext (congrFun e 4) (congrFun e 6)) (fiber_cell h' b k p q) _).trans ?_
  simp only [Fintype.sum_prod_type, split_at]

end Cert.Proof.Hog

end
-- ==== Proof.RefHist.lean ====
/-
  The histogram of the reference: each pixel's weighted magnitude where the pixel's bin is the bin, summed over a
  cell.
-/
module

public import proofs.«01_k».proof.Proof.RefBins
public import proofs.«01_k».proof.Proof.RefWeight
public import proofs.«01_k».proof.Proof.RefPool

@[expose] public section

set_option maxRecDepth 16384

noncomputable section

open scoped BigOperators

open Idealize.ShloMosaic Idealize.ShloMosaic.TcCoe Idealize.SL.Sem
open Cert.ReferenceIdeal Cert.ReferenceIdeal.Value

namespace Cert.Proof.Hog

/-- A truth value as a float. -/
theorem uitofp_ite (p : Prop) [Decidable p] :
    FloatOps.uitofp (F := Ideal) .f32 (if p then 1#1 else 0#1) = ((if p then 1 else 0 : ℝ) : EReal) := by
  show (((if p then 1#1 else 0#1 : BitVec 1).toNat : ℝ) : EReal) = _
  split <;> simp

/-- The sum of the outer product of the weights. -/
theorem sum_outer :
    ∑ a : Fin 16, ∑ b : Fin 16, ((weight a.val * weight b.val : ℝ) : EReal) = ((weightSum * weightSum : ℝ) : EReal) := by
  simp only [← coe_sum, sum_weight_mul]

/-- A weight depends on the place in the tile alone. -/
theorem weight_mod (a : ℕ) : weight (a % 16) = weight a := by simp only [weight, Nat.mod_mod]

/-- The magnitude times the divided product of the weights. -/
theorem mass_eq (X : Fin 512 → Fin 512 → ℝ) (i j : Fin 512) :
    Ideal.sqrt ((gradX X i j : EReal) * (gradX X i j : EReal) + (gradY X i j : EReal) * (gradY X i j : EReal))
      * Ideal.div ((weight (i.val % 16) * weight (j.val % 16) : ℝ) : EReal) ((weightSum * weightSum : ℝ) : EReal)
      = ((mass X i j : ℝ) : EReal) := by
  have hW := (mul_pos weightSum_pos weightSum_pos).ne'
  rw [← EReal.coe_mul, ← EReal.coe_mul, ← EReal.coe_add,
    sqrt_coe_of_nonneg (add_nonneg (mul_self_nonneg _) (mul_self_nonneg _)), div_coe_coe _ hW,
    ← EReal.coe_mul, weight_mod, weight_mod]
  congr 1
  simp only [mass, mag]
  ring

variable {V0 : Valuation τ sig (Elt Ideal)} {X : Fin 16 → Fin 512 → Fin 512 → ℝ}
  (hx : ∀ b i j, V0 (Proc.devRef .tc main_arg0) (ix4 b 0 i j) = ((X b i j : ℝ) : EReal))

include hx

/-- The reference's histogram. -/
theorem ref_hist (b : Fin 16) (k : Fin 9) (p q : Fin 64) :
    res_main_v80 V0 (ix5 b 0 k p q) = ((hist (X b) k.val p q : ℝ) : EReal) := by
  have h1 := ref_gradX hx b
  have h2 := ref_gradY hx b
  have h3 := ref_rem hx b
  have h4 := ref_outer V0
  revert h1 h2 h3 h4
  clean_types
  intro h1 h2 h3 h4
  pointwise [res_main_v80]
  refine (cell_sum _ _ _ b k p q).trans ?_
  simp only [hist, coe_sum]
  refine Finset.sum_congr rfl fun r _ => Finset.sum_congr rfl fun s _ => ?_
  generalize pix p r = i
  generalize pix q s = j
  pointwise [res_main_call1_v2, res_main_call1_v0, id_eq, h1, h2, h3, h4]
  rw [nine_word, bin_word_of (turn_bounds _ _), uitofp_ite, sum_outer, mass_eq, ← EReal.coe_mul]
  congr 1
  simp only [pbin, bin, ite_mul, one_mul, zero_mul]
  rfl

end Cert.Proof.Hog

end
-- ==== Proof.RefRun.lean ====
/-
  The run of the reference: its result is the normalised histogram of every image.
-/
module

public import proofs.«01_k».proof.Proof.RefHist

@[expose] public section

set_option maxRecDepth 16384

noncomputable section

open scoped BigOperators

open Idealize.ShloMosaic Idealize.ShloMosaic.TcCoe Idealize.SL.Sem
open Cert.ReferenceIdeal Cert.ReferenceIdeal.Value

namespace Cert.Proof.Hog

/-- A histogram divided by its norm. -/
theorem divide (X : Fin 512 → Fin 512 → ℝ) (k : ℕ) (p q : Fin 64) :
    Ideal.div (hist X k p q : EReal)
        (max (Ideal.sqrt (∑ l : Fin 9, (hist X l.val p q : EReal) * (hist X l.val p q : EReal)))
          (Ideal.ofBits .f32 0x2B8CBCCC#32)) = (result X k p q : EReal) := by
  simp only [← EReal.coe_mul, ← coe_sum]
  rw [sqrt_coe_of_nonneg (Finset.sum_nonneg fun _ _ => mul_self_nonneg _), lit_eps, ← coe_max]
  exact (div_coe_coe (hist X k p q) (norm_pos X p q).ne').trans (by rw [result, mul_one_div])

/-- The reference's run, its result in closed form. -/
theorem reference_run (m : (ℓ : Loc nD τ sig) → Buf (Elt Ideal) ℓ) (g : Dev nD → PrngReg)
    (X : Dev nD → Fin 16 → Fin 512 → Fin 512 → ℝ)
    (hX : ∀ (c : Dev nD) b i j, m ((c.tc : Thread nD τ).loc main_arg0) (ix4 b 0 i j) = ((X c b i j : ℝ) : EReal)) :
    θ_run (defs (F := Ideal)) (onTc (τ := τ) (main (F := Ideal))) ⟨m, fun _ => 0, g⟩ (fun r => ∀ c : Dev nD,
      r.2.mem ((c.tc : Thread nD τ).loc main_v91)
        = (fun y : S16x4096x9.Idx => (result (X c (y 0)) (y 2).val ⟨(y 1).val / 64, by idx_bounds; omega⟩
            ⟨(y 1).val % 64, by omega⟩ : EReal))
      ∧ r.2.mem ((c.tc : Thread nD τ).loc main_arg0) = m ((c.tc : Thread nD τ).loc main_arg0)) := by
  refine (θ_run defs _ _).mono (fun r h c => ⟨(h c).1.trans ?_, (h c).2⟩) (run m g)
  have h4 := ref_hist (V0 := StableHlo.launchContents m c) (X := X c) (hX c)
  revert h4
  clean_types
  intro h4
  funext y
  idx_vars y
  pointwise [h4]
  exact divide (X c y0) y2.val _ _

end Cert.Proof.Hog

end
-- ==== Proof.Finite.lean ====
/-
  What the precondition says: an array whose elements are all of an absolute value below infinity holds images of
  real numbers.
-/
module

public import proofs.«01_k».proof.Pre_finite
public import proofs.«01_k».proof.Proof.Ext
public import Idealize.ShloMosaic.Lib.Pointwise

@[expose] public section

set_option maxRecDepth 16384

noncomputable section

open Idealize.ShloMosaic

namespace Cert.Proof.Hog

/-- The shape relation that the precondition states. -/
theorem pre_facts : Cert.Pre_finite.Facts := ⟨by decide⟩

/-- An extended real of an absolute value below infinity is its real part. -/
theorem coe_of_abs_lt {x : EReal} (h : max x (-x) < ⊤) : x = ((x.toReal : ℝ) : EReal) := by
  refine (EReal.coe_toReal (fun e => ?_) (fun e => ?_)).symm
  · rw [e] at h; simp at h
  · rw [e] at h; simp at h

/-- The elements of an array that the precondition holds of are real numbers. -/
theorem real_of_pre (hF : Cert.Pre_finite.Facts) (x : FVec Ideal Cert.Pre_finite.S16x1x512x512 .f32)
    (h : Cert.Pre_finite.fn x = fun _ => 1#1) (b : Fin 16) (i j : Fin 512) :
    x (ix4 b 0 i j) = (((x (ix4 b 0 i j) : EReal).toReal : ℝ) : EReal) := by
  have e := congrFun h (ix4 b 0 i j)
  pointwise [Cert.Pre_finite.fn] at e
  rw [lit_inf, show FloatOps.absf (F := Ideal) (x (ix4 b 0 i j)) = max (x (ix4 b 0 i j) : EReal) (-(x (ix4 b 0 i j) : EReal))
    from rfl] at e
  refine coe_of_abs_lt (not_not.mp fun hn => ?_)
  rw [decide_eq_false hn] at e
  exact absurd e (by decide)

end Cert.Proof.Hog

end
-- ==== Proof.lean ====
/-
  The claims: the three frames, the idealization of the kernel, and the equality of the two programs' results over
  the extended reals for finite images.
-/
module

public import proofs.«01_k».proof.Defs
public import proofs.«01_k».proof.Proof.Gen.Kernel
public import proofs.«01_k».proof.Proof.Gen.Kernel.Frame
public import proofs.«01_k».proof.Proof.KernelRun
public import proofs.«01_k».proof.Proof.RefRun
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem

/-- Each named angle stands for the real number that the table of names gives it. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

/-- The reference runs, leaves its argument as it was, and has no counter to leave nonzero. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- On finite images the kernel and the reference end with equal results. -/
theorem algebraic : Cert.algebraic_KernelIdeal_ReferenceIdeal_pre_finite (hPre_finite := Hog.pre_facts) := by
  intro m g m' g' hpre hargs
  have hreal := fun c => Hog.real_of_pre Hog.pre_facts _ (hpre c)
  let X : Dev Cert.KernelIdeal.nD → Fin 16 → Fin 512 → Fin 512 → ℝ := fun c b i j =>
    EReal.toReal (m ((c.tc : Thread Cert.KernelIdeal.nD Cert.KernelIdeal.τ).loc Cert.KernelIdeal.main_arg0)
      (ix4 b 0 i j))
  refine ⟨fun c => Hog.results (X c), Hog.kernel_run m g X (fun c => hreal c), ?_⟩
  refine Hog.reference_run m' g' X fun c b i j => ?_
  exact (congrFun (hargs c) _).trans (hreal c b i j)

theorem claim : Cert.Claim :=
  ⟨Cert.Kernel.Gen.facts, Cert.KernelIdeal.Gen.facts, Cert.ReferenceIdeal.Gen.facts, Hog.pre_facts,
    fun m ρ _ => Cert.Kernel.Gen.frame m ρ, fun m ρ _ => Cert.KernelIdeal.Gen.frame m ρ,
    fun m ρ _ => Cert.KernelIdeal.Gen.frame m ρ, frame_reference,
    fun m ρ _ => frame_reference m ρ trivial, preserves, algebraic⟩

end Cert.Proof

end
